-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Values (m : (ℓ : Loc Cert.Values.nD Cert.Values.τ Cert.Values.sig) → Buf (Elt Bits) ℓ) : Prop :=
  True

def Pre_ValuesIdeal (m : (ℓ : Loc Cert.ValuesIdeal.nD Cert.ValuesIdeal.τ Cert.ValuesIdeal.sig) → Buf (Elt Ideal) ℓ) : Prop :=
  True

def Pre_ValuesReferenceIdeal (m : (ℓ : Loc Cert.ValuesReferenceIdeal.nD Cert.ValuesReferenceIdeal.τ Cert.ValuesReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8))
      ∧ r.2.sem = fun _ => 0)

def quiescent_Values [hValues : Cert.Values.Facts] : Prop :=
  ∀ (m : (ℓ : Loc Cert.Values.nD Cert.Values.τ Cert.Values.sig) → Buf (Elt Bits) ℓ) (g : Dev Cert.Values.nD → PrngReg), Pre_Values m →
    θ_run (Cert.Values.defs (F := Bits)) (onTc (τ := Cert.Values.τ) (Cert.Values.main (F := Bits))) ⟨m, fun _ => 0, g⟩ (fun r => (∀ c : Dev Cert.Values.nD,
      r.2.mem ((c.tc : Thread Cert.Values.nD Cert.Values.τ).loc Cert.Values.main_arg0) = m ((c.tc : Thread Cert.Values.nD Cert.Values.τ).loc Cert.Values.main_arg0)
      ∧ r.2.mem ((c.tc : Thread Cert.Values.nD Cert.Values.τ).loc Cert.Values.main_arg1) = m ((c.tc : Thread Cert.Values.nD Cert.Values.τ).loc Cert.Values.main_arg1))
      ∧ r.2.sem = fun _ => 0)

def quiescent_ValuesIdeal [hValuesIdeal : Cert.ValuesIdeal.Facts] : Prop :=
  ∀ (m : (ℓ : Loc Cert.ValuesIdeal.nD Cert.ValuesIdeal.τ Cert.ValuesIdeal.sig) → Buf (Elt Ideal) ℓ) (g : Dev Cert.ValuesIdeal.nD → PrngReg), Pre_ValuesIdeal m →
    θ_run (Cert.ValuesIdeal.defs (F := Ideal)) (onTc (τ := Cert.ValuesIdeal.τ) (Cert.ValuesIdeal.main (F := Ideal))) ⟨m, fun _ => 0, g⟩ (fun r => (∀ c : Dev Cert.ValuesIdeal.nD,
      r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
      ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1))
      ∧ r.2.sem = fun _ => 0)

def quiescent_ValuesReferenceIdeal [hValuesReferenceIdeal : Cert.ValuesReferenceIdeal.Facts] : Prop :=
  ∀ (m : (ℓ : Loc Cert.ValuesReferenceIdeal.nD Cert.ValuesReferenceIdeal.τ Cert.ValuesReferenceIdeal.sig) → Buf (Elt Ideal) ℓ) (g : Dev Cert.ValuesReferenceIdeal.nD → PrngReg), Pre_ValuesReferenceIdeal m →
    θ_run (Cert.ValuesReferenceIdeal.defs (F := Ideal)) (onTc (τ := Cert.ValuesReferenceIdeal.τ) (Cert.ValuesReferenceIdeal.main (F := Ideal))) ⟨m, fun _ => 0, g⟩ (fun r => (∀ c : Dev Cert.ValuesReferenceIdeal.nD,
      r.2.mem ((c.tc : Thread Cert.ValuesReferenceIdeal.nD Cert.ValuesReferenceIdeal.τ).loc Cert.ValuesReferenceIdeal.main_arg0) = m ((c.tc : Thread Cert.ValuesReferenceIdeal.nD Cert.ValuesReferenceIdeal.τ).loc Cert.ValuesReferenceIdeal.main_arg0)
      ∧ r.2.mem ((c.tc : Thread Cert.ValuesReferenceIdeal.nD Cert.ValuesReferenceIdeal.τ).loc Cert.ValuesReferenceIdeal.main_arg1) = m ((c.tc : Thread Cert.ValuesReferenceIdeal.nD Cert.ValuesReferenceIdeal.τ).loc Cert.ValuesReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v65)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v65) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v165) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v5_0)) (v1 : (c : Dev Cert.MergeIdeal.nD) → Buf (Elt Ideal) ((c.tc : Thread Cert.MergeIdeal.nD Cert.MergeIdeal.τ).loc Cert.MergeIdeal.main_v5_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5_0) = v0 c
          ∧ r.2.mem ((c.tc : Thread Cert.MergeIdeal.nD Cert.MergeIdeal.τ).loc Cert.MergeIdeal.main_v5_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v55) = v0 c
          ∧ r.2.mem ((c.tc : Thread Cert.MergeReferenceIdeal.nD Cert.MergeReferenceIdeal.τ).loc Cert.MergeReferenceIdeal.main_v56) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8))

def preserves_Values_ValuesIdeal : Prop :=
  True

def algebraic_ValuesIdeal_ValuesReferenceIdeal [hValuesIdeal : Cert.ValuesIdeal.Facts] [hValuesReferenceIdeal : Cert.ValuesReferenceIdeal.Facts] : Prop :=
  ∀ (m : (ℓ : Loc Cert.ValuesIdeal.nD Cert.ValuesIdeal.τ Cert.ValuesIdeal.sig) → Buf (Elt Ideal) ℓ) (g : Dev Cert.ValuesIdeal.nD → PrngReg)
    (m' : (ℓ : Loc Cert.ValuesReferenceIdeal.nD Cert.ValuesReferenceIdeal.τ Cert.ValuesReferenceIdeal.sig) → Buf (Elt Ideal) ℓ) (g' : Dev Cert.ValuesReferenceIdeal.nD → PrngReg), Pre_ValuesIdeal m →
    (∀ c : Dev Cert.ValuesIdeal.nD,
      m' ((c.tc : Thread Cert.ValuesReferenceIdeal.nD Cert.ValuesReferenceIdeal.τ).loc Cert.ValuesReferenceIdeal.main_arg0) = m ((c.tc : Thread Cert.ValuesIdeal.nD Cert.ValuesIdeal.τ).loc Cert.ValuesIdeal.main_arg0)
      ∧ m' ((c.tc : Thread Cert.ValuesReferenceIdeal.nD Cert.ValuesReferenceIdeal.τ).loc Cert.ValuesReferenceIdeal.main_arg1) = m ((c.tc : Thread Cert.ValuesIdeal.nD Cert.ValuesIdeal.τ).loc Cert.ValuesIdeal.main_arg1)) →
    ∃ (v0 : (c : Dev Cert.ValuesIdeal.nD) → Buf (Elt Ideal) ((c.tc : Thread Cert.ValuesIdeal.nD Cert.ValuesIdeal.τ).loc Cert.ValuesIdeal.main_v5)),
      θ_run (Cert.ValuesIdeal.defs (F := Ideal)) (onTc (τ := Cert.ValuesIdeal.τ) (Cert.ValuesIdeal.main (F := Ideal))) ⟨m, fun _ => 0, g⟩ (fun r => ∀ c : Dev Cert.ValuesIdeal.nD,
          r.2.mem ((c.tc : Thread Cert.ValuesIdeal.nD Cert.ValuesIdeal.τ).loc Cert.ValuesIdeal.main_v5) = v0 c
          ∧ r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
          ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1))
      ∧ θ_run (Cert.ValuesReferenceIdeal.defs (F := Ideal)) (onTc (τ := Cert.ValuesReferenceIdeal.τ) (Cert.ValuesReferenceIdeal.main (F := Ideal))) ⟨m', fun _ => 0, g'⟩ (fun r => ∀ c : Dev Cert.ValuesReferenceIdeal.nD,
          r.2.mem ((c.tc : Thread Cert.ValuesReferenceIdeal.nD Cert.ValuesReferenceIdeal.τ).loc Cert.ValuesReferenceIdeal.main_v7) = v0 c
          ∧ r.2.mem ((c.tc : Thread Cert.ValuesReferenceIdeal.nD Cert.ValuesReferenceIdeal.τ).loc Cert.ValuesReferenceIdeal.main_arg0) = m' ((c.tc : Thread Cert.ValuesReferenceIdeal.nD Cert.ValuesReferenceIdeal.τ).loc Cert.ValuesReferenceIdeal.main_arg0)
          ∧ r.2.mem ((c.tc : Thread Cert.ValuesReferenceIdeal.nD Cert.ValuesReferenceIdeal.τ).loc Cert.ValuesReferenceIdeal.main_arg1) = m' ((c.tc : Thread Cert.ValuesReferenceIdeal.nD Cert.ValuesReferenceIdeal.τ).loc Cert.ValuesReferenceIdeal.main_arg1))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjReferenceIdeal : Cert.ProjReferenceIdeal.Facts) (hMerge : Cert.Merge.Facts) (hMergeIdeal : Cert.MergeIdeal.Facts) (hMergeReferenceIdeal : Cert.MergeReferenceIdeal.Facts) (hValues : Cert.Values.Facts) (hValuesIdeal : Cert.ValuesIdeal.Facts) (hValuesReferenceIdeal : Cert.ValuesReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Values (hValues := hValues)
    ∧ quiescent_ValuesIdeal (hValuesIdeal := hValuesIdeal)
    ∧ quiescent_ValuesReferenceIdeal (hValuesReferenceIdeal := hValuesReferenceIdeal)
    ∧ preserves_Kernel_KernelIdeal
    ∧ algebraic_KernelIdeal_ReferenceIdeal (hKernelIdeal := hKernelIdeal) (hReferenceIdeal := hReferenceIdeal)
    ∧ preserves_Proj_ProjIdeal
    ∧ algebraic_ProjIdeal_ProjReferenceIdeal (hProjIdeal := hProjIdeal) (hProjReferenceIdeal := hProjReferenceIdeal)
    ∧ preserves_Merge_MergeIdeal
    ∧ algebraic_MergeIdeal_MergeReferenceIdeal (hMergeIdeal := hMergeIdeal) (hMergeReferenceIdeal := hMergeReferenceIdeal)
    ∧ preserves_Values_ValuesIdeal
    ∧ algebraic_ValuesIdeal_ValuesReferenceIdeal (hValuesIdeal := hValuesIdeal) (hValuesReferenceIdeal := hValuesReferenceIdeal)
-- ==== Kernel.lean ====
abbrev S16384x6144 : Shape := ⟨2, ![16384, 6144]⟩
abbrev S4 : Shape := ⟨1, ![4]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x1x1 : Shape := ⟨3, ![4, 1, 1]⟩
abbrev S1x256x256 : Shape := ⟨3, ![1, 256, 256]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S4x256x128 : Shape := ⟨3, ![4, 256, 128]⟩
abbrev S16384x1024 : Shape := ⟨2, ![16384, 1024]⟩
abbrev S256x512 : Shape := ⟨2, ![256, 512]⟩
abbrev S256x1024 : Shape := ⟨2, ![256, 1024]⟩
abbrev S4x128x256 : Shape := ⟨3, ![4, 128, 256]⟩
abbrev S256x128 : Shape := ⟨2, ![256, 128]⟩
abbrev S1x128x256 : Shape := ⟨3, ![1, 128, 256]⟩
abbrev S128x256 : Shape := ⟨2, ![128, 256]⟩
abbrev S1x256x128 : Shape := ⟨3, ![1, 256, 128]⟩

abbrev nBuf : Space → Nat
  | .hbm => 70
  | .vmem => 15
  | .smem => 0
  | _ => 0

abbrev bufTy : (tb : Table) → Fin (tcTables nBuf tb) → BufTy
  | .hbm, ⟨0, _⟩ => ⟨S16384x6144, .bf16⟩
  | .hbm, ⟨1, _⟩ => ⟨S4, .f32⟩
  | .hbm, ⟨2, _⟩ => ⟨S_, .f32⟩
  | .hbm, ⟨3, _⟩ => ⟨S4, .f32⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S256, .f32⟩
  | .hbm, ⟨13, _⟩ => ⟨S256x1, .f32⟩
  | .hbm, ⟨14, _⟩ => ⟨S1x256, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S_, .f32⟩
  | .hbm, ⟨19, _⟩ => ⟨S256x256, .f32⟩
  | .hbm, ⟨20, _⟩ => ⟨S256x256, .i1⟩
  | .hbm, ⟨21, _⟩ => ⟨S4x1x1, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S1x256x256, .f32⟩
  | .hbm, ⟨26, _⟩ => ⟨S4x256x256, .f32⟩
  | .hbm, ⟨27, _⟩ => ⟨S4x256x256, .f32⟩
  | .hbm, ⟨28, _⟩ => ⟨S4x256x256, .f32⟩
  | .hbm, ⟨29, _⟩ => ⟨S4x256x256, .f32⟩
  | .hbm, ⟨30, _⟩ => ⟨S_, .f32⟩
  | .hbm, ⟨31, _⟩ => ⟨S_, .f32⟩
  | .hbm, ⟨32, _⟩ => ⟨S4x256x256, .i1⟩
  | .hbm, ⟨33, _⟩ => ⟨S4x256x256, .f32⟩
  | .hbm, ⟨34, _⟩ => ⟨S4x256x256, .f32⟩
  | .hbm, ⟨35, _⟩ => ⟨S_, .f32⟩
  | .hbm, ⟨36, _⟩ => ⟨S4x256x256, .f32⟩
  | .hbm, ⟨37, _⟩ => ⟨S4x256x256, .f32⟩
  | .hbm, ⟨38, _⟩ => ⟨S4x1, .f32⟩
  | .hbm, ⟨39, _⟩ => ⟨S_, .f32⟩
  | .hbm, ⟨40, _⟩ => ⟨S256, .f32⟩
  | .hbm, ⟨41, _⟩ => ⟨S256, .f32⟩
  | .hbm, ⟨42, _⟩ => ⟨S1x256, .f32⟩
  | .hbm, ⟨43, _⟩ => ⟨S4x256, .f32⟩
  | .hbm, ⟨44, _⟩ => ⟨S4x256, .f32⟩
  | .hbm, ⟨45, _⟩ => ⟨S4x256, .f32⟩
  | .hbm, ⟨46, _⟩ => ⟨S4x256, .f32⟩
  | .hbm, ⟨47, _⟩ => ⟨S4x256x1, .f32⟩
  | .hbm, ⟨48, _⟩ => ⟨S4x256x256, .f32⟩
  | .hbm, ⟨49, _⟩ => ⟨S4x1, .f32⟩
  | .hbm, ⟨50, _⟩ => ⟨S_, .f32⟩
  | .hbm, ⟨51, _⟩ => ⟨S256, .f32⟩
  | .hbm, ⟨52, _⟩ => ⟨S256, .f32⟩
  | .hbm, ⟨53, _⟩ => ⟨S1x256, .f32⟩
  | .hbm, ⟨54, _⟩ => ⟨S4x256, .f32⟩
  | .hbm, ⟨55, _⟩ => ⟨S4x256, .f32⟩
  | .hbm, ⟨56, _⟩ => ⟨S4x256, .f32⟩
  | .hbm, ⟨57, _⟩ => ⟨S4x256, .f32⟩
  | .hbm, ⟨58, _⟩ => ⟨S_, .f32⟩
  | .hbm, ⟨59, _⟩ => ⟨S4x256, .f32⟩
  | .hbm, ⟨60, _⟩ => ⟨S4x256, .f32⟩
  | .hbm, ⟨61, _⟩ => ⟨S4x256x1, .f32⟩
  | .hbm, ⟨62, _⟩ => ⟨S4x256x128, .f32⟩
  | .hbm, ⟨63, _⟩ => ⟨S_, .f32⟩
  | .hbm, ⟨64, _⟩ => ⟨S4, .f32⟩
  | .hbm, ⟨65, _⟩ => ⟨S4, .f32⟩
  | .hbm, ⟨66, _⟩ => ⟨S4, .f32⟩
  | .hbm, ⟨67, _⟩ => ⟨S4x1, .f32⟩
  | .hbm, ⟨68, _⟩ => ⟨S4x256, .f32⟩
  | .hbm, ⟨69, _⟩ => ⟨S16384x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S4x256x256, .f32⟩
  | .local _ .vmem, ⟨9, _⟩ => ⟨S4x256x256, .f32⟩
  | .local _ .vmem, ⟨10, _⟩ => ⟨S4x256x128, .f32⟩
  | .local _ .vmem, ⟨11, _⟩ => ⟨S4x256, .f32⟩
  | .local _ .vmem, ⟨12, _⟩ => ⟨S256x1024, .bf16⟩
  | .local _ .vmem, ⟨13, _⟩ => ⟨S256x1024, .bf16⟩
  | .local _ .vmem, ⟨14, _⟩ => ⟨S4x128x256, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_3 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_8 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_9 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c3_i32 : BitVec 32 := 3#32
  let c0_i32 : BitVec 32 := 0#32
  ![v1.toNat, c3_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c3_i32 : BitVec 32 := 3#32
  let c0_i32 : BitVec 32 := 0#32
  ![v1.toNat, c3_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S16384x6144 : Shape := ⟨2, ![16384, 6144]⟩
abbrev S16384x512 : Shape := ⟨2, ![16384, 512]⟩
abbrev S2x8192x4x128 : Shape := ⟨4, ![2, 8192, 4, 128]⟩
abbrev S2x4x8192x128 : Shape := ⟨4, ![2, 4, 8192, 128]⟩
abbrev S16384x1024 : Shape := ⟨2, ![16384, 1024]⟩
abbrev S2x8192x4x256 : Shape := ⟨4, ![2, 8192, 4, 256]⟩
abbrev S2x4x8192x256 : Shape := ⟨4, ![2, 4, 8192, 256]⟩
abbrev S4 : Shape := ⟨1, ![4]⟩
abbrev S_ : Shape := ⟨0, ![]⟩
abbrev S2x4x32x256x128 : Shape := ⟨5, ![2, 4, 32, 256, 128]⟩
abbrev S2x4x32x256x256 : Shape := ⟨5, ![2, 4, 32, 256, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x1x1 : Shape := ⟨3, ![4, 1, 1]⟩
abbrev S1x256x256 : Shape := ⟨3, ![1, 256, 256]⟩
abbrev S4x256x256 : Shape := ⟨3, ![4, 256, 256]⟩
abbrev S1x4x1x256x256 : Shape := ⟨5, ![1, 4, 1, 256, 256]⟩
abbrev S4x1 : Shape := ⟨2, ![4, 1]⟩
abbrev S4x256 : Shape := ⟨2, ![4, 256]⟩
abbrev S1x4x1x256x1 : Shape := ⟨5, ![1, 4, 1, 256, 1]⟩
abbrev S32x2x4x128x256 : Shape := ⟨5, ![32, 2, 4, 128, 256]⟩
abbrev S2x4x128x256 : Shape := ⟨4, ![2, 4, 128, 256]⟩
abbrev S32x2x4x256x128 : Shape := ⟨5, ![32, 2, 4, 256, 128]⟩
abbrev S32x2x4x256x256 : Shape := ⟨5, ![32, 2, 4, 256, 256]⟩
abbrev S1x2x4x256x128 : Shape := ⟨5, ![1, 2, 4, 256, 128]⟩
abbrev S2x4x256x128 : Shape := ⟨4, ![2, 4, 256, 128]⟩
abbrev S1x2x4x256x256 : Shape := ⟨5, ![1, 2, 4, 256, 256]⟩
abbrev S2x4x256x256 : Shape := ⟨4, ![2, 4, 256, 256]⟩
abbrev S1x2x4x128x256 : Shape := ⟨5, ![1, 2, 4, 128, 256]⟩
abbrev S1x4x256x1 : Shape := ⟨4, ![1, 4, 256, 1]⟩
abbrev S1x4x1x1 : Shape := ⟨4, ![1, 4, 1, 1]⟩
abbrev S2x4x8192 : Shape := ⟨3, ![2, 4, 8192]⟩
abbrev S2x4x8192x1 : Shape := ⟨4, ![2, 4, 8192, 1]⟩

abbrev nBuf : Space → Nat
  | .hbm => 176
  | .vmem => 0
  | .smem => 0
  | _ => 0

abbrev hbmTy0_0 (i : Nat) : BufTy := match i % 128 with
  | 0 => ⟨S16384x6144, .bf16⟩
  | 1 => ⟨S16384x512, .bf16⟩
  | 2 => ⟨S16384x512, .f32⟩
  | 3 => ⟨S2x8192x4x128, .f32⟩
  | 4 => ⟨S2x4x8192x128, .f32⟩
  | 5 => ⟨S16384x512, .bf16⟩
  | 6 => ⟨S16384x512, .f32⟩
  | 7 => ⟨S2x8192x4x128, .f32⟩
  | 8 => ⟨S2x4x8192x128, .f32⟩
  | 9 => ⟨S16384x1024, .bf16⟩
  | 10 => ⟨S16384x1024, .f32⟩
  | 11 => ⟨S2x8192x4x256, .f32⟩
  | 12 => ⟨S2x4x8192x256, .f32⟩
  | 13 => ⟨S4, .f32⟩
  | 14 => ⟨S_, .f32⟩
  | 15 => ⟨S4, .f32⟩
  | 16 => ⟨S4, .f32⟩
  | 17 => ⟨S_, .f32⟩
  | 18 => ⟨S4, .f32⟩
  | 19 => ⟨S4, .f32⟩
  | 20 => ⟨S_, .f32⟩
  | 21 => ⟨S4, .f32⟩
  | 22 => ⟨S4, .f32⟩
  | 23 => ⟨S4, .f32⟩
  | 24 => ⟨S_, .f32⟩
  | 25 => ⟨S2x4x8192x128, .f32⟩
  | 26 => ⟨S2x4x8192x128, .f32⟩
  | 27 => ⟨S2x4x32x256x128, .f32⟩
  | 28 => ⟨S2x4x32x256x128, .f32⟩
  | 29 => ⟨S2x4x32x256x256, .f32⟩
  | 30 => ⟨S256, .f32⟩
  | 31 => ⟨S256x1, .f32⟩
  | 32 => ⟨S1x256, .f32⟩
  | 33 => ⟨S256x256, .f32⟩
  | 34 => ⟨S256x256, .f32⟩
  | 35 => ⟨S256x256, .f32⟩
  | 36 => ⟨S_, .f32⟩
  | 37 => ⟨S256x256, .f32⟩
  | 38 => ⟨S256x256, .i1⟩
  | 39 => ⟨S4x1x1, .f32⟩
  | 40 => ⟨S_, .f32⟩
  | 41 => ⟨S256x256, .f32⟩
  | 42 => ⟨S256x256, .f32⟩
  | 43 => ⟨S1x256x256, .f32⟩
  | 44 => ⟨S4x256x256, .f32⟩
  | 45 => ⟨S4x256x256, .f32⟩
  | 46 => ⟨S4x256x256, .f32⟩
  | 47 => ⟨S4x256x256, .f32⟩
  | 48 => ⟨S_, .f32⟩
  | 49 => ⟨S_, .f32⟩
  | 50 => ⟨S4x256x256, .i1⟩
  | 51 => ⟨S4x256x256, .f32⟩
  | 52 => ⟨S4x256x256, .f32⟩
  | 53 => ⟨S2x4x32x256x256, .f32⟩
  | 54 => ⟨S1x4x1x256x256, .f32⟩
  | 55 => ⟨S2x4x32x256x256, .f32⟩
  | 56 => ⟨S2x4x32x256x256, .f32⟩
  | 57 => ⟨S2x4x32x256x256, .f32⟩
  | 58 => ⟨S4x1, .f32⟩
  | 59 => ⟨S_, .f32⟩
  | 60 => ⟨S256, .f32⟩
  | 61 => ⟨S256, .f32⟩
  | 62 => ⟨S1x256, .f32⟩
  | 63 => ⟨S4x256, .f32⟩
  | 64 => ⟨S4x256, .f32⟩
  | 65 => ⟨S4x256, .f32⟩
  | 66 => ⟨S4x256, .f32⟩
  | 67 => ⟨S4x1, .f32⟩
  | 68 => ⟨S_, .f32⟩
  | 69 => ⟨S256, .f32⟩
  | 70 => ⟨S256, .f32⟩
  | 71 => ⟨S1x256, .f32⟩
  | 72 => ⟨S4x256, .f32⟩
  | 73 => ⟨S4x256, .f32⟩
  | 74 => ⟨S4x256, .f32⟩
  | 75 => ⟨S4x256, .f32⟩
  | 76 => ⟨S_, .f32⟩
  | 77 => ⟨S4, .f32⟩
  | 78 => ⟨S4, .f32⟩
  | 79 => ⟨S4, .f32⟩
  | 80 => ⟨S1x4x1x256x1, .f32⟩
  | 81 => ⟨S2x4x32x256x128, .f32⟩
  | 82 => ⟨S2x4x32x256x128, .f32⟩
  | 83 => ⟨S32x2x4x128x256, .f32⟩
  | 84 => ⟨S_, .f32⟩
  | 85 => ⟨S2x4x128x256, .f32⟩
  | 86 => ⟨S32x2x4x256x128, .f32⟩
  | 87 => ⟨S32x2x4x256x256, .f32⟩
  | 88 => ⟨S_, .f32⟩
  | 89 => ⟨S32x2x4x256x256, .f32⟩
  | 90 => ⟨S_, .i32⟩
  | 91 => ⟨S32x2x4x256x128, .f32⟩
  | 92 => ⟨S32x2x4x256x256, .f32⟩
  | 93 => ⟨S32x2x4x128x256, .f32⟩
  | 94 => ⟨S4x256, .f32⟩
  | 95 => ⟨S4, .f32⟩
  | 96 => ⟨S_, .i32⟩
  | 97 => ⟨S2x4x128x256, .f32⟩
  | 98 => ⟨S32x2x4x256x256, .f32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S1x2x4x256x128, .f32⟩
  | 106 => ⟨S2x4x256x128, .f32⟩
  | 107 => ⟨S_, .i32⟩
  | 108 => ⟨S_, .i32⟩
  | 109 => ⟨S_, .i32⟩
  | 110 => ⟨S_, .i32⟩
  | 111 => ⟨S1x2x4x256x256, .f32⟩
  | 112 => ⟨S2x4x256x256, .f32⟩
  | 113 => ⟨S_, .i32⟩
  | 114 => ⟨S_, .i32⟩
  | 115 => ⟨S_, .i32⟩
  | 116 => ⟨S_, .i32⟩
  | 117 => ⟨S1x2x4x128x256, .f32⟩
  | 118 => ⟨S2x4x128x256, .f32⟩
  | 119 => ⟨S2x4x256x256, .f32⟩
  | 120 => ⟨S1x4x256x1, .f32⟩
  | 121 => ⟨S2x4x256x256, .f32⟩
  | 122 => ⟨S2x4x256x256, .f32⟩
  | 123 => ⟨S1x4x1x1, .f32⟩
  | 124 => ⟨S2x4x128x256, .f32⟩
  | 125 => ⟨S2x4x128x256, .f32⟩
  | 126 => ⟨S2x4x128x256, .f32⟩
  | 127 => ⟨S2x4x256x256, .f32⟩
  | _ => ⟨S16384x6144, .bf16⟩

abbrev hbmTy0_1 (i : Nat) : BufTy := match i % 128 with
  | 0 => ⟨S1x2x4x256x256, .f32⟩
  | 1 => ⟨S_, .i32⟩
  | 2 => ⟨S_, .i32⟩
  | 3 => ⟨S_, .i32⟩
  | 4 => ⟨S_, .i32⟩
  | 5 => ⟨S32x2x4x256x256, .f32⟩
  | 6 => ⟨S_, .i32⟩
  | 7 => ⟨S_, .i32⟩
  | 8 => ⟨S2x4x32x256x256, .f32⟩
  | 9 => ⟨S2x4x8192x256, .f32⟩
  | 10 => ⟨S_, .f32⟩
  | 11 => ⟨S2x4x8192, .f32⟩
  | 12 => ⟨S2x4x8192x1, .f32⟩
  | 13 => ⟨S_, .f32⟩
  | 14 => ⟨S2x4x8192x1, .f32⟩
  | 15 => ⟨S2x4x8192x1, .f32⟩
  | 16 => ⟨S2x4x8192x256, .f32⟩
  | 17 => ⟨S2x4x8192x256, .f32⟩
  | 18 => ⟨S2x4x8192x256, .f32⟩
  | 19 => ⟨S_, .f32⟩
  | 20 => ⟨S2x4x8192, .f32⟩
  | 21 => ⟨S2x4x8192x1, .f32⟩
  | 22 => ⟨S_, .f32⟩
  | 23 => ⟨S2x4x8192x1, .f32⟩
  | 24 => ⟨S2x4x8192x1, .f32⟩
  | 25 => ⟨S2x4x8192x256, .f32⟩
  | 26 => ⟨S2x4x8192x256, .f32⟩
  | 27 => ⟨S_, .f32⟩
  | 28 => ⟨S2x4x8192x1, .f32⟩
  | 29 => ⟨S2x4x8192x1, .f32⟩
  | 30 => ⟨S2x4x8192x1, .f32⟩
  | 31 => ⟨S2x4x8192x256, .f32⟩
  | 32 => ⟨S2x4x8192x256, .f32⟩
  | 33 => ⟨S2x8192x4x256, .f32⟩
  | 34 => ⟨S16384x1024, .f32⟩
  | 35 => ⟨S16384x1024, .bf16⟩
  | 36 => ⟨S16384x1024, .f32⟩
  | 37 => ⟨S16384x1024, .f32⟩
  | 38 => ⟨S16384x1024, .f32⟩
  | 39 => ⟨S_, .f32⟩
  | 40 => ⟨S16384x1024, .f32⟩
  | 41 => ⟨S16384x1024, .f32⟩
  | 42 => ⟨S_, .f32⟩
  | 43 => ⟨S16384x1024, .f32⟩
  | 44 => ⟨S16384x1024, .f32⟩
  | 45 => ⟨S16384x1024, .f32⟩
  | 46 => ⟨S16384x1024, .f32⟩
  | 47 => ⟨S16384x1024, .bf16⟩
  | _ => ⟨S16384x6144, .bf16⟩

abbrev hbmTy (i : Nat) : BufTy := match i / 128 with
  | 0 => hbmTy0_0 i
  | 1 => hbmTy0_1 i
  | _ => ⟨S16384x6144, .bf16⟩

abbrev bufTy : (tb : Table) → Fin (tcTables nBuf tb) → BufTy
  | .hbm, ⟨i, _⟩ => hbmTy i
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_cst : Ref sig .tc := ⟨.hbm, 14, rfl⟩
abbrev main_v13 : Ref sig .tc := ⟨.hbm, 15, rfl⟩
abbrev main_v14 : Ref sig .tc := ⟨.hbm, 16, rfl⟩
abbrev main_cst_0 : Ref sig .tc := ⟨.hbm, 17, rfl⟩
abbrev main_v15 : Ref sig .tc := ⟨.hbm, 18, rfl⟩
abbrev main_v16 : Ref sig .tc := ⟨.hbm, 19, rfl⟩
abbrev main_cst_1 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_2 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_3 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_4 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_5 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_7 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_8 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_cst_9 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_10 : Ref sig .tc := ⟨.hbm, 88, rfl⟩
abbrev main_v73 : Ref sig .tc := ⟨.hbm, 89, rfl⟩
abbrev main_c : Ref sig .tc := ⟨.hbm, 90, rfl⟩
abbrev main_v74_0 : Ref sig .tc := ⟨.hbm, 91, rfl⟩
abbrev main_v74_1 : Ref sig .tc := ⟨.hbm, 92, rfl⟩
abbrev main_v74_2 : Ref sig .tc := ⟨.hbm, 93, rfl⟩
abbrev main_v74_3 : Ref sig .tc := ⟨.hbm, 94, rfl⟩
abbrev main_v74_4 : Ref sig .tc := ⟨.hbm, 95, rfl⟩
abbrev main_v74_5 : Ref sig .tc := ⟨.hbm, 96, rfl⟩
abbrev main_v74_6 : Ref sig .tc := ⟨.hbm, 97, rfl⟩
abbrev main_v74_7 : Ref sig .tc := ⟨.hbm, 98, rfl⟩
abbrev main_while0c_c_23 : Ref sig .tc := ⟨.hbm, 99, rfl⟩
abbrev main_while0c_v102 : Ref sig .tc := ⟨.hbm, 100, rfl⟩
abbrev main_while0b_call1_c : Ref sig .tc := ⟨.hbm, 101, rfl⟩
abbrev main_while0b_call1_c_0 : Ref sig .tc := ⟨.hbm, 102, rfl⟩
abbrev main_while0b_call1_c_1 : Ref sig .tc := ⟨.hbm, 103, rfl⟩
abbrev main_while0b_call1_c_2 : Ref sig .tc := ⟨.hbm, 104, rfl⟩
abbrev main_while0b_call1_v0 : Ref sig .tc := ⟨.hbm, 105, rfl⟩
abbrev main_while0b_v102 : Ref sig .tc := ⟨.hbm, 106, rfl⟩
abbrev main_while0b_call2_c : Ref sig .tc := ⟨.hbm, 107, rfl⟩
abbrev main_while0b_call2_c_0 : Ref sig .tc := ⟨.hbm, 108, rfl⟩
abbrev main_while0b_call2_c_1 : Ref sig .tc := ⟨.hbm, 109, rfl⟩
abbrev main_while0b_call2_c_2 : Ref sig .tc := ⟨.hbm, 110, rfl⟩
abbrev main_while0b_call2_v0 : Ref sig .tc := ⟨.hbm, 111, rfl⟩
abbrev main_while0b_v103 : Ref sig .tc := ⟨.hbm, 112, rfl⟩
abbrev main_while0b_call3_c : Ref sig .tc := ⟨.hbm, 113, rfl⟩
abbrev main_while0b_call3_c_0 : Ref sig .tc := ⟨.hbm, 114, rfl⟩
abbrev main_while0b_call3_c_1 : Ref sig .tc := ⟨.hbm, 115, rfl⟩
abbrev main_while0b_call3_c_2 : Ref sig .tc := ⟨.hbm, 116, rfl⟩
abbrev main_while0b_call3_v0 : Ref sig .tc := ⟨.hbm, 117, rfl⟩
abbrev main_while0b_v104 : Ref sig .tc := ⟨.hbm, 118, rfl⟩
abbrev main_while0b_v105 : Ref sig .tc := ⟨.hbm, 119, rfl⟩
abbrev main_while0b_v106 : Ref sig .tc := ⟨.hbm, 120, rfl⟩
abbrev main_while0b_v107 : Ref sig .tc := ⟨.hbm, 121, rfl⟩
abbrev main_while0b_v108 : Ref sig .tc := ⟨.hbm, 122, rfl⟩
abbrev main_while0b_v109 : Ref sig .tc := ⟨.hbm, 123, rfl⟩
abbrev main_while0b_v110 : Ref sig .tc := ⟨.hbm, 124, rfl⟩
abbrev main_while0b_v111 : Ref sig .tc := ⟨.hbm, 125, rfl⟩
abbrev main_while0b_v112 : Ref sig .tc := ⟨.hbm, 126, rfl⟩
abbrev main_while0b_v113 : Ref sig .tc := ⟨.hbm, 127, rfl⟩
abbrev main_while0b_call4_v0 : Ref sig .tc := ⟨.hbm, 128, rfl⟩
abbrev main_while0b_call4_c : Ref sig .tc := ⟨.hbm, 129, rfl⟩
abbrev main_while0b_call4_c_0 : Ref sig .tc := ⟨.hbm, 130, rfl⟩
abbrev main_while0b_call4_c_1 : Ref sig .tc := ⟨.hbm, 131, rfl⟩
abbrev main_while0b_call4_c_2 : Ref sig .tc := ⟨.hbm, 132, rfl⟩
abbrev main_while0b_v114 : Ref sig .tc := ⟨.hbm, 133, rfl⟩
abbrev main_while0b_c_23 : Ref sig .tc := ⟨.hbm, 134, rfl⟩
abbrev main_while0b_v115 : Ref sig .tc := ⟨.hbm, 135, rfl⟩
abbrev main_v75 : Ref sig .tc := ⟨.hbm, 136, rfl⟩
abbrev main_v76 : Ref sig .tc := ⟨.hbm, 137, rfl⟩
abbrev main_cst_11 : Ref sig .tc := ⟨.hbm, 138, rfl⟩
abbrev main_v77 : Ref sig .tc := ⟨.hbm, 139, rfl⟩
abbrev main_v78 : Ref sig .tc := ⟨.hbm, 140, rfl⟩
abbrev main_cst_12 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_cst_13 : Ref sig .tc := ⟨.hbm, 147, rfl⟩
abbrev main_v84 : Ref sig .tc := ⟨.hbm, 148, rfl⟩
abbrev main_v85 : Ref sig .tc := ⟨.hbm, 149, rfl⟩
abbrev main_cst_14 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_cst_15 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_call5_v0 : Ref sig .tc := ⟨.hbm, 165, rfl⟩
abbrev main_call5_v1 : Ref sig .tc := ⟨.hbm, 166, rfl⟩
abbrev main_call5_cst : Ref sig .tc := ⟨.hbm, 167, rfl⟩
abbrev main_call5_v2 : Ref sig .tc := ⟨.hbm, 168, rfl⟩
abbrev main_call5_v3 : Ref sig .tc := ⟨.hbm, 169, rfl⟩
abbrev main_call5_cst_0 : Ref sig .tc := ⟨.hbm, 170, rfl⟩
abbrev main_call5_v4 : Ref sig .tc := ⟨.hbm, 171, rfl⟩
abbrev main_call5_v5 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩

abbrev nD : Nat := 1
abbrev τ : Topo := Topo.v7x

variable {F : FTy → Type} [FloatOps F]

abbrev main_while0_count : Scf.Loop 32 := ⟨0#32, 32#32, 1#32⟩
-- ==== Proj.lean ====
abbrev S2x8192x1024 : Shape := ⟨3, ![2, 8192, 1024]⟩
abbrev S1024x6656 : Shape := ⟨2, ![1024, 6656]⟩
abbrev S512 : Shape := ⟨1, ![512]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S1x8192x2x32 : Shape := ⟨4, ![1, 8192, 2, 32]⟩
abbrev S8192x64 : Shape := ⟨2, ![8192, 64]⟩
abbrev S63 : Shape := ⟨1, ![63]⟩
abbrev S1 : Shape := ⟨1, ![1]⟩
abbrev S64 : Shape := ⟨1, ![64]⟩
abbrev S1x64 : Shape := ⟨2, ![1, 64]⟩
abbrev S16384x1024 : Shape := ⟨2, ![16384, 1024]⟩
abbrev S1024x1024 : Shape := ⟨2, ![1024, 1024]⟩
abbrev S1024x8x2x2x32 : Shape := ⟨5, ![1024, 8, 2, 2, 32]⟩
abbrev S1024x512 : Shape := ⟨2, ![1024, 512]⟩
abbrev S512x1 : Shape := ⟨2, ![512, 1]⟩
abbrev S1024x4096 : Shape := ⟨2, ![1024, 4096]⟩
abbrev S1024x6144 : Shape := ⟨2, ![1024, 6144]⟩
abbrev S16384x6144 : Shape := ⟨2, ![16384, 6144]⟩
abbrev S1024x128 : Shape := ⟨2, ![1024, 128]⟩

abbrev nBuf : Space → Nat
  | .hbm => 101
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S1024x6656, .f32⟩
  | .hbm, ⟨2, _⟩ => ⟨S512, .i32⟩
  | .hbm, ⟨3, _⟩ => ⟨S512, .i1⟩
  | .hbm, ⟨4, _⟩ => ⟨S512, .i1⟩
  | .hbm, ⟨5, _⟩ => ⟨S8192, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S8192x1, .f32⟩
  | .hbm, ⟨21, _⟩ => ⟨S1x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S1x8192x1x32, .f32⟩
  | .hbm, ⟨28, _⟩ => ⟨S1x8192x4x32, .f32⟩
  | .hbm, ⟨29, _⟩ => ⟨S8192x128, .f32⟩
  | .hbm, ⟨30, _⟩ => ⟨S8192x32, .f32⟩
  | .hbm, ⟨31, _⟩ => ⟨S1x8192x1x32, .f32⟩
  | .hbm, ⟨32, _⟩ => ⟨S1x8192x2x32, .f32⟩
  | .hbm, ⟨33, _⟩ => ⟨S8192x64, .f32⟩
  | .hbm, ⟨34, _⟩ => ⟨S1x8192x1x32, .f32⟩
  | .hbm, ⟨35, _⟩ => ⟨S1x8192x2x32, .f32⟩
  | .hbm, ⟨36, _⟩ => ⟨S8192x64, .f32⟩
  | .hbm, ⟨37, _⟩ => ⟨S8192x128, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S63, .f32⟩
  | .hbm, ⟨46, _⟩ => ⟨S_, .f32⟩
  | .hbm, ⟨47, _⟩ => ⟨S63, .f32⟩
  | .hbm, ⟨48, _⟩ => ⟨S63, .f32⟩
  | .hbm, ⟨49, _⟩ => ⟨S1, .f32⟩
  | .hbm, ⟨50, _⟩ => ⟨S_, .f32⟩
  | .hbm, ⟨51, _⟩ => ⟨S63, .f32⟩
  | .hbm, ⟨52, _⟩ => ⟨S63, .f32⟩
  | .hbm, ⟨53, _⟩ => ⟨S63, .f32⟩
  | .hbm, ⟨54, _⟩ => ⟨S63, .f32⟩
  | .hbm, ⟨55, _⟩ => ⟨S1, .f32⟩
  | .hbm, ⟨56, _⟩ => ⟨S63, .f32⟩
  | .hbm, ⟨57, _⟩ => ⟨S63, .f32⟩
  | .hbm, ⟨58, _⟩ => ⟨S63, .f32⟩
  | .hbm, ⟨59, _⟩ => ⟨S1, .f32⟩
  | .hbm, ⟨60, _⟩ => ⟨S64, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S_, .f32⟩
  | .hbm, ⟨65, _⟩ => ⟨S64, .f32⟩
  | .hbm, ⟨66, _⟩ => ⟨S64, .f32⟩
  | .hbm, ⟨67, _⟩ => ⟨S8192x1, .f32⟩
  | .hbm, ⟨68, _⟩ => ⟨S1x64, .f32⟩
  | .hbm, ⟨69, _⟩ => ⟨S8192x64, .f32⟩
  | .hbm, ⟨70, _⟩ => ⟨S8192x64, .f32⟩
  | .hbm, ⟨71, _⟩ => ⟨S8192x64, .f32⟩
  | .hbm, ⟨72, _⟩ => ⟨S8192x64, .f32⟩
  | .hbm, ⟨73, _⟩ => ⟨S8192x64, .f32⟩
  | .hbm, ⟨74, _⟩ => ⟨S8192x128, .f32⟩
  | .hbm, ⟨75, _⟩ => ⟨S8192x64, .f32⟩
  | .hbm, ⟨76, _⟩ => ⟨S8192x128, .f32⟩
  | .hbm, ⟨77, _⟩ => ⟨S16384x1024, .f32⟩
  | .hbm, ⟨78, _⟩ => ⟨S16384x1024, .bf16⟩
  | .hbm, ⟨79, _⟩ => ⟨S1024x1024, .f32⟩
  | .hbm, ⟨80, _⟩ => ⟨S1024x8x2x2x32, .f32⟩
  | .hbm, ⟨81, _⟩ => ⟨S1024x8x2x2x32, .f32⟩
  | .hbm, ⟨82, _⟩ => ⟨S1024x1024, .f32⟩
  | .hbm, ⟨83, _⟩ => ⟨S1024x512, .f32⟩
  | .hbm, ⟨84, _⟩ => ⟨S_, .i32⟩
  | .hbm, ⟨85, _⟩ => ⟨S512, .i32⟩
  | .hbm, ⟨86, _⟩ => ⟨S512, .i32⟩
  | .hbm, ⟨87, _⟩ => ⟨S512, .i32⟩
  | .hbm, ⟨88, _⟩ => ⟨S512x1, .i32⟩
  | .hbm, ⟨89, _⟩ => ⟨S1024x512, .f32⟩
  | .hbm, ⟨90, _⟩ => ⟨S1024x512, .f32⟩
  | .hbm, ⟨91, _⟩ => ⟨S_, .i32⟩
  | .hbm, ⟨92, _⟩ => ⟨S512, .i32⟩
  | .hbm, ⟨93, _⟩ => ⟨S512, .i32⟩
  | .hbm, ⟨94, _⟩ => ⟨S512, .i32⟩
  | .hbm, ⟨95, _⟩ => ⟨S512x1, .i32⟩
  | .hbm, ⟨96, _⟩ => ⟨S1024x512, .f32⟩
  | .hbm, ⟨97, _⟩ => ⟨S1024x4096, .f32⟩
  | .hbm, ⟨98, _⟩ => ⟨S1024x6144, .f32⟩
  | .hbm, ⟨99, _⟩ => ⟨S1024x6144, .bf16⟩
  | .hbm, ⟨100, _⟩ => ⟨S16384x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x1024, .bf16⟩
  | .local _ .vmem, ⟨13, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_cst_4 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_cst_6 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_cst : Ref sig .tc := ⟨.hbm, 43, rfl⟩
abbrev main_call0_v3 : Ref sig .tc := ⟨.hbm, 44, rfl⟩
abbrev main_call0_v4 : Ref sig .tc := ⟨.hbm, 45, rfl⟩
abbrev main_call0_cst_0 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_cst_1 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_v12 : Ref sig .tc := ⟨.hbm, 55, rfl⟩
abbrev main_call0_v13 : Ref sig .tc := ⟨.hbm, 56, rfl⟩
abbrev main_call0_v14 : Ref sig .tc := ⟨.hbm, 57, rfl⟩
abbrev main_call0_v15 : Ref sig .tc := ⟨.hbm, 58, rfl⟩
abbrev main_call0_v16 : Ref sig .tc := ⟨.hbm, 59, rfl⟩
abbrev main_v29 : Ref sig .tc := ⟨.hbm, 60, rfl⟩
abbrev main_cst_7 : Ref sig .tc := ⟨.hbm, 61, rfl⟩
abbrev main_v30 : Ref sig .tc := ⟨.hbm, 62, rfl⟩
abbrev main_v31 : Ref sig .tc := ⟨.hbm, 63, rfl⟩
abbrev main_cst_8 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_c_9 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_c_10 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg1 : BitVec 32 := BitVec.ofNat 32 (i 1).val
  let c1_i32 : BitVec 32 := 1#32
  let v5 : BitVec 1 := Scalar.cmpi .slt arg1 c1_i32
  let v6 : BitVec 32 := Scalar.extui v5
  let c0_i32 : BitVec 32 := 0#32
  let v7 : BitVec 1 := Scalar.cmpi .ne v6 c0_i32
  v7

def k0_cond2 (i : grid0.Coords) : BitVec 1 :=
  let arg1 : BitVec 32 := BitVec.ofNat 32 (i 1).val
  let c1_i32_3 : BitVec 32 := 1#32
  let v8 : BitVec 1 := Scalar.cmpi .sge arg1 c1_i32_3
  let c2_i32 : BitVec 32 := 2#32
  let v9 : BitVec 1 := Scalar.cmpi .slt arg1 c2_i32
  let v10 : BitVec 1 := Scalar.andi v8 v9
  let v11 : BitVec 32 := Scalar.extui v10
  let c0_i32_4 : BitVec 32 := 0#32
  let v12 : BitVec 1 := Scalar.cmpi .ne v11 c0_i32_4
  v12

def k0_cond3 (i : grid0.Coords) : BitVec 1 :=
  let arg1 : BitVec 32 := BitVec.ofNat 32 (i 1).val
  let c2_i32_5 : BitVec 32 := 2#32
  let v13 : BitVec 1 := Scalar.cmpi .sge arg1 c2_i32_5
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ProjReferenceIdeal.lean ====
abbrev S2x8192x1024 : Shape := ⟨3, ![2, 8192, 1024]⟩
abbrev S1024x6656 : Shape := ⟨2, ![1024, 6656]⟩
abbrev S2x8192x6656 : Shape := ⟨3, ![2, 8192, 6656]⟩
abbrev S2x8192x512 : Shape := ⟨3, ![2, 8192, 512]⟩
abbrev S8192 : Shape := ⟨1, ![8192]⟩
abbrev S2x8192x8x64 : Shape := ⟨4, ![2, 8192, 8, 64]⟩
abbrev S2x8x8192x64 : Shape := ⟨4, ![2, 8, 8192, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S2x8x8192x32 : Shape := ⟨4, ![2, 8, 8192, 32]⟩
abbrev S1x1x8192x32 : Shape := ⟨4, ![1, 1, 8192, 32]⟩
abbrev S2x8192x4x128 : Shape := ⟨4, ![2, 8192, 4, 128]⟩
abbrev S2x4x8192x128 : Shape := ⟨4, ![2, 4, 8192, 128]⟩
abbrev S63 : Shape := ⟨1, ![63]⟩
abbrev S1 : Shape := ⟨1, ![1]⟩
abbrev S64 : Shape := ⟨1, ![64]⟩
abbrev S1x64 : Shape := ⟨2, ![1, 64]⟩
abbrev S8192x64 : Shape := ⟨2, ![8192, 64]⟩
abbrev S2x4x8192x64 : Shape := ⟨4, ![2, 4, 8192, 64]⟩
abbrev S1x1x8192x64 : Shape := ⟨4, ![1, 1, 8192, 64]⟩
abbrev S2x4x8192x64x1 : Shape := ⟨5, ![2, 4, 8192, 64, 1]⟩
abbrev S2x4x8192x64x2 : Shape := ⟨5, ![2, 4, 8192, 64, 2]⟩
abbrev S2x4x2x8192x2x32 : Shape := ⟨6, ![2, 4, 2, 8192, 2, 32]⟩
abbrev S2x8192x4x2x2x32 : Shape := ⟨6, ![2, 8192, 4, 2, 2, 32]⟩
abbrev S2x8192x4x2x64 : Shape := ⟨5, ![2, 8192, 4, 2, 64]⟩
abbrev S2x8192x6144 : Shape := ⟨3, ![2, 8192, 6144]⟩
abbrev S16384x6144 : Shape := ⟨2, ![16384, 6144]⟩

abbrev nBuf : Space → Nat
  | .hbm => 224
  | .vmem => 0
  | .smem => 0
  | _ => 0

abbrev hbmTy0_0 (i : Nat) : BufTy := match i % 128 with
  | 0 => ⟨S2x8192x1024, .f32⟩
  | 1 => ⟨S1024x6656, .f32⟩
  | 2 => ⟨S2x8192x6656, .f32⟩
  | 3 => ⟨S2x8192x512, .f32⟩
  | 4 => ⟨S2x8192x512, .f32⟩
  | 5 => ⟨S2x8192x512, .f32⟩
  | 6 => ⟨S2x8192x512, .f32⟩
  | 7 => ⟨S2x8192x512, .f32⟩
  | 8 => ⟨S2x8192x1024, .f32⟩
  | 9 => ⟨S2x8192x1024, .f32⟩
  | 10 => ⟨S2x8192x1024, .f32⟩
  | 11 => ⟨S2x8192x1024, .f32⟩
  | 12 => ⟨S8192, .f32⟩
  | 13 => ⟨S2x8192x8x64, .f32⟩
  | 14 => ⟨S2x8x8192x64, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S32, .f32⟩
  | 23 => ⟨S_, .f32⟩
  | 24 => ⟨S32, .f32⟩
  | 25 => ⟨S32, .f32⟩
  | 26 => ⟨S_, .f32⟩
  | 27 => ⟨S32, .f32⟩
  | 28 => ⟨S32, .f32⟩
  | 29 => ⟨S8192x1, .f32⟩
  | 30 => ⟨S1x32, .f32⟩
  | 31 => ⟨S8192x32, .f32⟩
  | 32 => ⟨S8192x32, .f32⟩
  | 33 => ⟨S8192x32, .f32⟩
  | 34 => ⟨S8192x32, .f32⟩
  | 35 => ⟨S8192x32, .f32⟩
  | 36 => ⟨S2x8x8192x32, .f32⟩
  | 37 => ⟨S2x8x8192x32, .f32⟩
  | 38 => ⟨S1x1x8192x32, .f32⟩
  | 39 => ⟨S2x8x8192x32, .f32⟩
  | 40 => ⟨S2x8x8192x32, .f32⟩
  | 41 => ⟨S1x1x8192x32, .f32⟩
  | 42 => ⟨S2x8x8192x32, .f32⟩
  | 43 => ⟨S2x8x8192x32, .f32⟩
  | 44 => ⟨S2x8x8192x32, .f32⟩
  | 45 => ⟨S1x1x8192x32, .f32⟩
  | 46 => ⟨S2x8x8192x32, .f32⟩
  | 47 => ⟨S2x8x8192x32, .f32⟩
  | 48 => ⟨S1x1x8192x32, .f32⟩
  | 49 => ⟨S2x8x8192x32, .f32⟩
  | 50 => ⟨S2x8x8192x32, .f32⟩
  | 51 => ⟨S2x8x8192x32, .f32⟩
  | 52 => ⟨S2x8x8192x64, .f32⟩
  | 53 => ⟨S2x8192x8x64, .f32⟩
  | 54 => ⟨S2x8x8192x64, .f32⟩
  | 55 => ⟨S32, .f32⟩
  | 56 => ⟨S_, .f32⟩
  | 57 => ⟨S32, .f32⟩
  | 58 => ⟨S32, .f32⟩
  | 59 => ⟨S_, .f32⟩
  | 60 => ⟨S32, .f32⟩
  | 61 => ⟨S32, .f32⟩
  | 62 => ⟨S32, .f32⟩
  | 63 => ⟨S_, .f32⟩
  | 64 => ⟨S32, .f32⟩
  | 65 => ⟨S32, .f32⟩
  | 66 => ⟨S_, .f32⟩
  | 67 => ⟨S32, .f32⟩
  | 68 => ⟨S32, .f32⟩
  | 69 => ⟨S8192x1, .f32⟩
  | 70 => ⟨S1x32, .f32⟩
  | 71 => ⟨S8192x32, .f32⟩
  | 72 => ⟨S8192x32, .f32⟩
  | 73 => ⟨S8192x32, .f32⟩
  | 74 => ⟨S8192x32, .f32⟩
  | 75 => ⟨S8192x32, .f32⟩
  | 76 => ⟨S2x8x8192x32, .f32⟩
  | 77 => ⟨S2x8x8192x32, .f32⟩
  | 78 => ⟨S1x1x8192x32, .f32⟩
  | 79 => ⟨S2x8x8192x32, .f32⟩
  | 80 => ⟨S2x8x8192x32, .f32⟩
  | 81 => ⟨S1x1x8192x32, .f32⟩
  | 82 => ⟨S2x8x8192x32, .f32⟩
  | 83 => ⟨S2x8x8192x32, .f32⟩
  | 84 => ⟨S2x8x8192x32, .f32⟩
  | 85 => ⟨S1x1x8192x32, .f32⟩
  | 86 => ⟨S2x8x8192x32, .f32⟩
  | 87 => ⟨S2x8x8192x32, .f32⟩
  | 88 => ⟨S1x1x8192x32, .f32⟩
  | 89 => ⟨S2x8x8192x32, .f32⟩
  | 90 => ⟨S2x8x8192x32, .f32⟩
  | 91 => ⟨S2x8x8192x32, .f32⟩
  | 92 => ⟨S2x8x8192x64, .f32⟩
  | 93 => ⟨S2x8192x4x128, .f32⟩
  | 94 => ⟨S2x4x8192x128, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S63, .f32⟩
  | 103 => ⟨S_, .f32⟩
  | 104 => ⟨S63, .f32⟩
  | 105 => ⟨S63, .f32⟩
  | 106 => ⟨S1, .f32⟩
  | 107 => ⟨S_, .f32⟩
  | 108 => ⟨S63, .f32⟩
  | 109 => ⟨S63, .f32⟩
  | 110 => ⟨S63, .f32⟩
  | 111 => ⟨S63, .f32⟩
  | 112 => ⟨S1, .f32⟩
  | 113 => ⟨S63, .f32⟩
  | 114 => ⟨S63, .f32⟩
  | 115 => ⟨S63, .f32⟩
  | 116 => ⟨S1, .f32⟩
  | 117 => ⟨S64, .f32⟩
  | 118 => ⟨S_, .f32⟩
  | 119 => ⟨S64, .f32⟩
  | 120 => ⟨S64, .f32⟩
  | 121 => ⟨S_, .f32⟩
  | 122 => ⟨S64, .f32⟩
  | 123 => ⟨S64, .f32⟩
  | 124 => ⟨S8192x1, .f32⟩
  | 125 => ⟨S1x64, .f32⟩
  | 126 => ⟨S8192x64, .f32⟩
  | 127 => ⟨S8192x64, .f32⟩
  | _ => ⟨S2x8192x1024, .f32⟩

abbrev hbmTy0_1 (i : Nat) : BufTy := match i % 128 with
  | 0 => ⟨S8192x64, .f32⟩
  | 1 => ⟨S8192x64, .f32⟩
  | 2 => ⟨S8192x64, .f32⟩
  | 3 => ⟨S2x4x8192x64, .f32⟩
  | 4 => ⟨S2x4x8192x64, .f32⟩
  | 5 => ⟨S1x1x8192x64, .f32⟩
  | 6 => ⟨S2x4x8192x64, .f32⟩
  | 7 => ⟨S2x4x8192x64, .f32⟩
  | 8 => ⟨S1x1x8192x64, .f32⟩
  | 9 => ⟨S2x4x8192x64, .f32⟩
  | 10 => ⟨S2x4x8192x64, .f32⟩
  | 11 => ⟨S2x4x8192x64, .f32⟩
  | 12 => ⟨S1x1x8192x64, .f32⟩
  | 13 => ⟨S2x4x8192x64, .f32⟩
  | 14 => ⟨S2x4x8192x64, .f32⟩
  | 15 => ⟨S1x1x8192x64, .f32⟩
  | 16 => ⟨S2x4x8192x64, .f32⟩
  | 17 => ⟨S2x4x8192x64, .f32⟩
  | 18 => ⟨S2x4x8192x64, .f32⟩
  | 19 => ⟨S2x4x8192x64x1, .f32⟩
  | 20 => ⟨S2x4x8192x64x1, .f32⟩
  | 21 => ⟨S2x4x8192x64x2, .f32⟩
  | 22 => ⟨S2x4x8192x128, .f32⟩
  | 23 => ⟨S2x8192x4x128, .f32⟩
  | 24 => ⟨S2x4x8192x128, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S63, .f32⟩
  | 33 => ⟨S_, .f32⟩
  | 34 => ⟨S63, .f32⟩
  | 35 => ⟨S63, .f32⟩
  | 36 => ⟨S1, .f32⟩
  | 37 => ⟨S_, .f32⟩
  | 38 => ⟨S63, .f32⟩
  | 39 => ⟨S63, .f32⟩
  | 40 => ⟨S63, .f32⟩
  | 41 => ⟨S63, .f32⟩
  | 42 => ⟨S1, .f32⟩
  | 43 => ⟨S63, .f32⟩
  | 44 => ⟨S63, .f32⟩
  | 45 => ⟨S63, .f32⟩
  | 46 => ⟨S1, .f32⟩
  | 47 => ⟨S64, .f32⟩
  | 48 => ⟨S_, .f32⟩
  | 49 => ⟨S64, .f32⟩
  | 50 => ⟨S64, .f32⟩
  | 51 => ⟨S_, .f32⟩
  | 52 => ⟨S64, .f32⟩
  | 53 => ⟨S64, .f32⟩
  | 54 => ⟨S8192x1, .f32⟩
  | 55 => ⟨S1x64, .f32⟩
  | 56 => ⟨S8192x64, .f32⟩
  | 57 => ⟨S8192x64, .f32⟩
  | 58 => ⟨S8192x64, .f32⟩
  | 59 => ⟨S8192x64, .f32⟩
  | 60 => ⟨S8192x64, .f32⟩
  | 61 => ⟨S2x4x8192x64, .f32⟩
  | 62 => ⟨S2x4x8192x64, .f32⟩
  | 63 => ⟨S1x1x8192x64, .f32⟩
  | 64 => ⟨S2x4x8192x64, .f32⟩
  | 65 => ⟨S2x4x8192x64, .f32⟩
  | 66 => ⟨S1x1x8192x64, .f32⟩
  | 67 => ⟨S2x4x8192x64, .f32⟩
  | 68 => ⟨S2x4x8192x64, .f32⟩
  | 69 => ⟨S2x4x8192x64, .f32⟩
  | 70 => ⟨S1x1x8192x64, .f32⟩
  | 71 => ⟨S2x4x8192x64, .f32⟩
  | 72 => ⟨S2x4x8192x64, .f32⟩
  | 73 => ⟨S1x1x8192x64, .f32⟩
  | 74 => ⟨S2x4x8192x64, .f32⟩
  | 75 => ⟨S2x4x8192x64, .f32⟩
  | 76 => ⟨S2x4x8192x64, .f32⟩
  | 77 => ⟨S2x4x8192x64x1, .f32⟩
  | 78 => ⟨S2x4x8192x64x1, .f32⟩
  | 79 => ⟨S2x4x8192x64x2, .f32⟩
  | 80 => ⟨S2x4x8192x128, .f32⟩
  | 81 => ⟨S2x4x2x8192x2x32, .f32⟩
  | 82 => ⟨S2x8192x4x2x2x32, .f32⟩
  | 83 => ⟨S2x8192x512, .f32⟩
  | 84 => ⟨S2x4x2x8192x2x32, .f32⟩
  | 85 => ⟨S2x8192x4x2x2x32, .f32⟩
  | 86 => ⟨S2x8192x512, .f32⟩
  | 87 => ⟨S2x4x8192x64x2, .f32⟩
  | 88 => ⟨S2x8192x4x2x64, .f32⟩
  | 89 => ⟨S2x8192x512, .f32⟩
  | 90 => ⟨S2x4x8192x64x2, .f32⟩
  | 91 => ⟨S2x8192x4x2x64, .f32⟩
  | 92 => ⟨S2x8192x512, .f32⟩
  | 93 => ⟨S2x8192x6144, .f32⟩
  | 94 => ⟨S16384x6144, .f32⟩
  | 95 => ⟨S16384x6144, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_cst_3 : Ref sig .tc := ⟨.hbm, 56, rfl⟩
abbrev main_v50 : Ref sig .tc := ⟨.hbm, 57, rfl⟩
abbrev main_v51 : Ref sig .tc := ⟨.hbm, 58, rfl⟩
abbrev main_cst_4 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_5 : Ref sig .tc := ⟨.hbm, 63, rfl⟩
abbrev main_v55 : Ref sig .tc := ⟨.hbm, 64, rfl⟩
abbrev main_v56 : Ref sig .tc := ⟨.hbm, 65, rfl⟩
abbrev main_cst_6 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_cst_7 : Ref sig .tc := ⟨.hbm, 95, rfl⟩
abbrev main_cst_8 : Ref sig .tc := ⟨.hbm, 96, rfl⟩
abbrev main_call0_v0 : Ref sig .tc := ⟨.hbm, 97, rfl⟩
abbrev main_call0_v1 : Ref sig .tc := ⟨.hbm, 98, rfl⟩
abbrev main_call0_v2 : Ref sig .tc := ⟨.hbm, 99, rfl⟩
abbrev main_call0_cst : Ref sig .tc := ⟨.hbm, 100, rfl⟩
abbrev main_call0_v3 : Ref sig .tc := ⟨.hbm, 101, rfl⟩
abbrev main_call0_v4 : Ref sig .tc := ⟨.hbm, 102, rfl⟩
abbrev main_call0_cst_0 : Ref sig .tc := ⟨.hbm, 103, rfl⟩
abbrev main_call0_v5 : Ref sig .tc := ⟨.hbm, 104, rfl⟩
abbrev main_call0_v6 : Ref sig .tc := ⟨.hbm, 105, rfl⟩
abbrev main_call0_v7 : Ref sig .tc := ⟨.hbm, 106, rfl⟩
abbrev main_call0_cst_1 : Ref sig .tc := ⟨.hbm, 107, rfl⟩
abbrev main_call0_v8 : Ref sig .tc := ⟨.hbm, 108, rfl⟩
abbrev main_call0_v9 : Ref sig .tc := ⟨.hbm, 109, rfl⟩
abbrev main_call0_v10 : Ref sig .tc := ⟨.hbm, 110, rfl⟩
abbrev main_call0_v11 : Ref sig .tc := ⟨.hbm, 111, rfl⟩
abbrev main_call0_v12 : Ref sig .tc := ⟨.hbm, 112, rfl⟩
abbrev main_call0_v13 : Ref sig .tc := ⟨.hbm, 113, rfl⟩
abbrev main_call0_v14 : Ref sig .tc := ⟨.hbm, 114, rfl⟩
abbrev main_call0_v15 : Ref sig .tc := ⟨.hbm, 115, rfl⟩
abbrev main_call0_v16 : Ref sig .tc := ⟨.hbm, 116, rfl⟩
abbrev main_v85 : Ref sig .tc := ⟨.hbm, 117, rfl⟩
abbrev main_cst_9 : Ref sig .tc := ⟨.hbm, 118, rfl⟩
abbrev main_v86 : Ref sig .tc := ⟨.hbm, 119, rfl⟩
abbrev main_v87 : Ref sig .tc := ⟨.hbm, 120, rfl⟩
abbrev main_cst_10 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_cst_11 : Ref sig .tc := ⟨.hbm, 153, rfl⟩
abbrev main_cst_12 : Ref sig .tc := ⟨.hbm, 154, rfl⟩
abbrev main_call1_v0 : Ref sig .tc := ⟨.hbm, 155, rfl⟩
abbrev main_call1_v1 : Ref sig .tc := ⟨.hbm, 156, rfl⟩
abbrev main_call1_v2 : Ref sig .tc := ⟨.hbm, 157, rfl⟩
abbrev main_call1_cst : Ref sig .tc := ⟨.hbm, 158, rfl⟩
abbrev main_call1_v3 : Ref sig .tc := ⟨.hbm, 159, rfl⟩
abbrev main_call1_v4 : Ref sig .tc := ⟨.hbm, 160, rfl⟩
abbrev main_call1_cst_0 : Ref sig .tc := ⟨.hbm, 161, rfl⟩
abbrev main_call1_v5 : Ref sig .tc := ⟨.hbm, 162, rfl⟩
abbrev main_call1_v6 : Ref sig .tc := ⟨.hbm, 163, rfl⟩
abbrev main_call1_v7 : Ref sig .tc := ⟨.hbm, 164, rfl⟩
abbrev main_call1_cst_1 : Ref sig .tc := ⟨.hbm, 165, rfl⟩
abbrev main_call1_v8 : Ref sig .tc := ⟨.hbm, 166, rfl⟩
abbrev main_call1_v9 : Ref sig .tc := ⟨.hbm, 167, rfl⟩
abbrev main_call1_v10 : Ref sig .tc := ⟨.hbm, 168, rfl⟩
abbrev main_call1_v11 : Ref sig .tc := ⟨.hbm, 169, rfl⟩
abbrev main_call1_v12 : Ref sig .tc := ⟨.hbm, 170, rfl⟩
abbrev main_call1_v13 : Ref sig .tc := ⟨.hbm, 171, rfl⟩
abbrev main_call1_v14 : Ref sig .tc := ⟨.hbm, 172, rfl⟩
abbrev main_call1_v15 : Ref sig .tc := ⟨.hbm, 173, rfl⟩
abbrev main_call1_v16 : Ref sig .tc := ⟨.hbm, 174, rfl⟩
abbrev main_v119 : Ref sig .tc := ⟨.hbm, 175, rfl⟩
abbrev main_cst_13 : Ref sig .tc := ⟨.hbm, 176, rfl⟩
abbrev main_v120 : Ref sig .tc := ⟨.hbm, 177, rfl⟩
abbrev main_v121 : Ref sig .tc := ⟨.hbm, 178, rfl⟩
abbrev main_cst_14 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩

abbrev nD : Nat := 1
abbrev τ : Topo := Topo.v7x

variable {F : FTy → Type} [FloatOps F]
-- ==== Merge.lean ====
abbrev S2x512x8192 : Shape := ⟨3, ![2, 512, 8192]⟩
abbrev S16384x1024 : Shape := ⟨2, ![16384, 1024]⟩
abbrev S16384x6144 : Shape := ⟨2, ![16384, 6144]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S1x512x512 : Shape := ⟨3, ![1, 512, 512]⟩
abbrev S512x512 : Shape := ⟨2, ![512, 512]⟩
abbrev S512 : Shape := ⟨1, ![512]⟩
abbrev S512x1 : Shape := ⟨2, ![512, 1]⟩

abbrev nBuf : Space → Nat
  | .hbm => 16
  | .vmem => 19
  | .smem => 0
  | _ => 0

abbrev bufTy : (tb : Table) → Fin (tcTables nBuf tb) → BufTy
  | .hbm, ⟨0, _⟩ => ⟨S2x512x8192, .f32⟩
  | .hbm, ⟨1, _⟩ => ⟨S16384x1024, .bf16⟩
  | .hbm, ⟨2, _⟩ => ⟨S16384x6144, .bf16⟩
  | .hbm, ⟨3, _⟩ => ⟨S16384x1024, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S512x1024, .bf16⟩
  | .hbm, ⟨10, _⟩ => ⟨S1024x1024, .bf16⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S16384x1024, .f32⟩
  | .hbm, ⟨15, _⟩ => ⟨S16384x1024, .bf16⟩
  | .local _ .vmem, ⟨0, _⟩ => ⟨S1x512x512, .f32⟩
  | .local _ .vmem, ⟨1, _⟩ => ⟨S1x512x512, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | _, _ => ⟨S2x512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c5_i32 : BitVec 32 := 5#32
  let c0_i32 : BitVec 32 := 0#32
  ![v1.toNat, c5_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MergeReferenceIdeal.lean ====
abbrev S2x512x8192 : Shape := ⟨3, ![2, 512, 8192]⟩
abbrev S16384x1024 : Shape := ⟨2, ![16384, 1024]⟩
abbrev S16384x6144 : Shape := ⟨2, ![16384, 6144]⟩
abbrev S512x1024 : Shape := ⟨2, ![512, 1024]⟩
abbrev S1024x1024 : Shape := ⟨2, ![1024, 1024]⟩
abbrev S1024 : Shape := ⟨1, ![1024]⟩
abbrev S2x8192x512 : Shape := ⟨3, ![2, 8192, 512]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S2x512x8192, .f32⟩
  | .hbm, ⟨1, _⟩ => ⟨S16384x1024, .bf16⟩
  | .hbm, ⟨2, _⟩ => ⟨S16384x6144, .bf16⟩
  | .hbm, ⟨3, _⟩ => ⟨S16384x1024, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S2x8192x512, .f32⟩
  | .hbm, ⟨10, _⟩ => ⟨S2x8192x1024, .bf16⟩
  | .hbm, ⟨11, _⟩ => ⟨S2x8192x1024, .f32⟩
  | .hbm, ⟨12, _⟩ => ⟨S16384x1024, .bf16⟩
  | .hbm, ⟨13, _⟩ => ⟨S2x8192x1024, .bf16⟩
  | .hbm, ⟨14, _⟩ => ⟨S2x8192x1024, .f32⟩
  | .hbm, ⟨15, _⟩ => ⟨S16384x1024, .bf16⟩
  | .hbm, ⟨16, _⟩ => ⟨S2x8192x1024, .bf16⟩
  | .hbm, ⟨17, _⟩ => ⟨S2x8192x1024, .f32⟩
  | .hbm, ⟨18, _⟩ => ⟨S2x8192x1024, .f32⟩
  | .hbm, ⟨19, _⟩ => ⟨S2x8192x1024, .f32⟩
  | .hbm, ⟨20, _⟩ => ⟨S2x8192x1024, .f32⟩
  | .hbm, ⟨21, _⟩ => ⟨S2x8192x1024, .f32⟩
  | .hbm, ⟨22, _⟩ => ⟨S_, .f32⟩
  | .hbm, ⟨23, _⟩ => ⟨S2x8192x1024, .f32⟩
  | .hbm, ⟨24, _⟩ => ⟨S2x8192x1024, .f32⟩
  | .hbm, ⟨25, _⟩ => ⟨S_, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S_, .f32⟩
  | .hbm, ⟨32, _⟩ => ⟨S2x8192x1024, .f32⟩
  | .hbm, ⟨33, _⟩ => ⟨S2x8192x1024, .f32⟩
  | .hbm, ⟨34, _⟩ => ⟨S_, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S_, .f32⟩
  | .hbm, ⟨42, _⟩ => ⟨S2x8192x1024, .f32⟩
  | .hbm, ⟨43, _⟩ => ⟨S2x8192x1024, .f32⟩
  | .hbm, ⟨44, _⟩ => ⟨S2x8192x1024, .f32⟩
  | .hbm, ⟨45, _⟩ => ⟨S_, .f32⟩
  | .hbm, ⟨46, _⟩ => ⟨S2x8192, .f32⟩
  | .hbm, ⟨47, _⟩ => ⟨S2x8192x1, .f32⟩
  | .hbm, ⟨48, _⟩ => ⟨S_, .f32⟩
  | .hbm, ⟨49, _⟩ => ⟨S2x8192x1, .f32⟩
  | .hbm, ⟨50, _⟩ => ⟨S2x8192x1, .f32⟩
  | .hbm, ⟨51, _⟩ => ⟨S2x8192x1024, .f32⟩
  | .hbm, ⟨52, _⟩ => ⟨S2x8192x1024, .f32⟩
  | .hbm, ⟨53, _⟩ => ⟨S2x8192x1024, .f32⟩
  | .hbm, ⟨54, _⟩ => ⟨S_, .f32⟩
  | .hbm, ⟨55, _⟩ => ⟨S2x8192, .f32⟩
  | .hbm, ⟨56, _⟩ => ⟨S2x8192x1, .f32⟩
  | .hbm, ⟨57, _⟩ => ⟨S_, .f32⟩
  | .hbm, ⟨58, _⟩ => ⟨S2x8192x1, .f32⟩
  | .hbm, ⟨59, _⟩ => ⟨S2x8192x1, .f32⟩
  | .hbm, ⟨60, _⟩ => ⟨S2x8192x1024, .f32⟩
  | .hbm, ⟨61, _⟩ => ⟨S2x8192x1024, .f32⟩
  | .hbm, ⟨62, _⟩ => ⟨S_, .f32⟩
  | .hbm, ⟨63, _⟩ => ⟨S2x8192x1, .f32⟩
  | .hbm, ⟨64, _⟩ => ⟨S2x8192x1, .f32⟩
  | .hbm, ⟨65, _⟩ => ⟨S2x8192x1, .f32⟩
  | .hbm, ⟨66, _⟩ => ⟨S2x8192x1024, .f32⟩
  | .hbm, ⟨67, _⟩ => ⟨S2x8192x1024, .f32⟩
  | .hbm, ⟨68, _⟩ => ⟨S1x1x1024, .f32⟩
  | .hbm, ⟨69, _⟩ => ⟨S2x8192x1024, .f32⟩
  | .hbm, ⟨70, _⟩ => ⟨S2x8192x1024, .f32⟩
  | .hbm, ⟨71, _⟩ => ⟨S1x1x1024, .f32⟩
  | .hbm, ⟨72, _⟩ => ⟨S2x8192x1024, .f32⟩
  | .hbm, ⟨73, _⟩ => ⟨S2x8192x1024, .f32⟩
  | .hbm, ⟨74, _⟩ => ⟨S16384x1024, .f32⟩
  | .hbm, ⟨75, _⟩ => ⟨S16384x1024, .bf16⟩
  | _, _ => ⟨S2x512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== Values.lean ====
abbrev S2x8192x1024 : Shape := ⟨3, ![2, 8192, 1024]⟩
abbrev S1024x6656 : Shape := ⟨2, ![1024, 6656]⟩
abbrev S16384x1024 : Shape := ⟨2, ![16384, 1024]⟩
abbrev S1024x512 : Shape := ⟨2, ![1024, 512]⟩
abbrev S512x1024 : Shape := ⟨2, ![512, 1024]⟩
abbrev S64x8x80x256 : Shape := ⟨4, ![64, 8, 80, 256]⟩
abbrev S1024x1024 : Shape := ⟨2, ![1024, 1024]⟩
abbrev S4x8x80x256 : Shape := ⟨4, ![4, 8, 80, 256]⟩
abbrev S16x256 : Shape := ⟨2, ![16, 256]⟩
abbrev S64x256 : Shape := ⟨2, ![64, 256]⟩
abbrev S1x1x64x256 : Shape := ⟨4, ![1, 1, 64, 256]⟩
abbrev S1x1x16x256 : Shape := ⟨4, ![1, 1, 16, 256]⟩

abbrev nBuf : Space → Nat
  | .hbm => 8
  | .vmem => 5
  | .smem => 0
  | _ => 0

abbrev bufTy : (tb : Table) → Fin (tcTables nBuf tb) → BufTy
  | .hbm, ⟨0, _⟩ => ⟨S2x8192x1024, .f32⟩
  | .hbm, ⟨1, _⟩ => ⟨S1024x6656, .f32⟩
  | .hbm, ⟨2, _⟩ => ⟨S16384x1024, .f32⟩
  | .hbm, ⟨3, _⟩ => ⟨S16384x1024, .bf16⟩
  | .hbm, ⟨4, _⟩ => ⟨S1024x512, .f32⟩
  | .hbm, ⟨5, _⟩ => ⟨S512x1024, .f32⟩
  | .hbm, ⟨6, _⟩ => ⟨S512x1024, .bf16⟩
  | .hbm, ⟨7, _⟩ => ⟨S64x8x80x256, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S4x8x80x256, .bf16⟩
  | .local _ .vmem, ⟨4, _⟩ => ⟨S4x8x80x256, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x8x80x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ValuesReferenceIdeal.lean ====
abbrev S2x8192x1024 : Shape := ⟨3, ![2, 8192, 1024]⟩
abbrev S1024x6656 : Shape := ⟨2, ![1024, 6656]⟩
abbrev S2x8192x6656 : Shape := ⟨3, ![2, 8192, 6656]⟩
abbrev S2x8192x512 : Shape := ⟨3, ![2, 8192, 512]⟩
abbrev S64x256x8x64 : Shape := ⟨4, ![64, 256, 8, 64]⟩
abbrev S64x8x64x256 : Shape := ⟨4, ![64, 8, 64, 256]⟩
abbrev S_ : Shape := ⟨0, ![]⟩
abbrev S64x8x1x256 : Shape := ⟨4, ![64, 8, 1, 256]⟩
abbrev S64x8x15x256 : Shape := ⟨4, ![64, 8, 15, 256]⟩
abbrev S64x8x80x256 : Shape := ⟨4, ![64, 8, 80, 256]⟩

abbrev nBuf : Space → Nat
  | .hbm => 12
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x6656, .f32⟩
  | .hbm, ⟨2, _⟩ => ⟨S2x8192x6656, .f32⟩
  | .hbm, ⟨3, _⟩ => ⟨S2x8192x512, .f32⟩
  | .hbm, ⟨4, _⟩ => ⟨S64x256x8x64, .f32⟩
  | .hbm, ⟨5, _⟩ => ⟨S64x8x64x256, .f32⟩
  | .hbm, ⟨6, _⟩ => ⟨S_, .f32⟩
  | .hbm, ⟨7, _⟩ => ⟨S64x8x1x256, .f32⟩
  | .hbm, ⟨8, _⟩ => ⟨S_, .f32⟩
  | .hbm, ⟨9, _⟩ => ⟨S64x8x15x256, .f32⟩
  | .hbm, ⟨10, _⟩ => ⟨S64x8x80x256, .f32⟩
  | .hbm, ⟨11, _⟩ => ⟨S64x8x80x256, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.RetBody.lean ====
module

public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.RetBody

open Cert.KernelIdeal Cert.KernelIdeal.Gen

variable (m : (ℓ : Loc nD τ sig) → Buf (Elt Ideal) ℓ)

/-- What the states of the heads are after a block: the old state decayed by the chunk, plus the block's decayed keys against its values. -/
def stateVal (k : FVec Ideal S256x512 .bf16) (v : FVec Ideal S256x1024 .bf16) (kd : FVec Ideal S4x256x128 .f32)
    (cd : FVec Ideal S4x256 .f32) (S : FVec Ideal S4x128x256 .f32) : FVec Ideal S4x128x256 .f32 := fun y =>
  S y * cd (ix2 (y 0) (y 2))
    + ∑ j : Fin 256, (k (ix2 j ⟨(y 0).val * 128 + (y 1).val, by have := (y 0).isLt; have := (y 1).isLt; simp [Shape.Coord] at *; omega⟩) * kd (ix3 (y 0) j (y 1)))
        * v (ix2 j ⟨(y 0).val * 256 + (y 2).val, by have := (y 0).isLt; have := (y 2).isLt; simp [Shape.Coord] at *; omega⟩)

/-- Every stored piece is `G` loaded at the piece's rectangle. -/
def LoadsOf {s : Shape} {e : EltTy} (G : s.Idx → Elt Ideal e) : List (View.Piece (Elt Ideal) s e) → Prop
  | [] => True
  | ⟨r, P⟩ :: L => (∀ x : r.shape.Idx, P x = View.ld G r x) ∧ LoadsOf G L

theorem LoadsOf.pieces {s : Shape} {e : EltTy} {G : s.Idx → Elt Ideal e} : ∀ {L : List (View.Piece (Elt Ideal) s e)}, LoadsOf G L → View.PiecesOf G L
  | [], _ => trivial
  | ⟨_, _⟩ :: _, h => ⟨h.1, h.2.pieces⟩

/-- Pieces that are loads of `G`, written over earlier ones, leave `G` wherever one of them lies. -/
theorem canon_of_loadsOf {s : Shape} {e : EltTy} (G : s.Idx → Elt Ideal e) (L' L : List (View.Piece (Elt Ideal) s e)) (h : LoadsOf G L)
    (y : s.Idx) (hc : ∃ p ∈ L, y ∈ p.1.set) : View.canon (L ++ L') y = G y :=
  View.canon_append_of_piecesOf G L' L h.pieces y hc

theorem state_B (c : Dev nD) (t : Fin cfg0.N) (h0 : ¬t.val % 32 = 0) :
    (outsAt0 m c t.val t.isLt).2
      = stateVal (iblk m c 1 t) (iblk m c 2 t) (iblk m c 6 t) (iblk m c 7 t)
          (outsAt0 m c (t.val - 1) (Nat.lt_of_le_of_lt (Nat.sub_le _ _) t.isLt)).2 := by
  funext y
  rw [outsAt0_B m c t h0]
  frame_out
  generalize (outsAt0 m c (t.val - 1) (Nat.lt_of_le_of_lt (Nat.sub_le _ _) t.isLt)).2 = S
  simp only [read_unread_whole]
  refine canon_of_loadsOf (e := .f32) (stateVal (iblk m c 1 t) (iblk m c 2 t) (iblk m c 6 t) (iblk m c 7 t) S) [] [_, _, _, _] ⟨?_, ?_, ?_, ?_, trivial⟩ y ?_
  · intro (x : S1x128x256.Idx); idx_vars x; pointwise [stateVal, k0_pay22, k0_pay21]
  · intro (x : S1x128x256.Idx); idx_vars x; pointwise [stateVal, k0_pay18, k0_pay15, k0_pay17]
  · intro (x : S1x128x256.Idx); idx_vars x; pointwise [stateVal, k0_pay11, k0_pay10]
  · intro (x : S1x128x256.Idx); idx_vars x; pointwise [stateVal, k0_pay7, k0_pay5, k0_pay6, k0_pay3]
  · exact View.cover_of_tiledL (s := S4x128x256) _ ![1, 128, 256] (by sl_kernel_rfl) y

theorem state_A (c : Dev nD) (t : Fin cfg0.N) (h0 : t.val % 32 = 0) :
    (outsAt0 m c t.val t.isLt).2
      = stateVal (iblk m c 1 t) (iblk m c 2 t) (iblk m c 6 t) (iblk m c 7 t) (k0_pay2 (F := Ideal)) := by
  funext y
  rw [outsAt0_A m c t h0]
  frame_open
  simp (disch := decide) only [↓ View.readCov_skip, ↓ View.readCov_cons_toLoadRect, ↓ View.readCov_fill]
  frame_out
  generalize (k0_pay2 (F := Ideal)) = S
  refine canon_of_loadsOf (e := .f32) (stateVal (iblk m c 1 t) (iblk m c 2 t) (iblk m c 6 t) (iblk m c 7 t) S) [_] [_, _, _, _] ⟨?_, ?_, ?_, ?_, trivial⟩ y ?_
  · intro (x : S1x128x256.Idx); idx_vars x; pointwise [stateVal, k0_pay22, k0_pay21]
  · intro (x : S1x128x256.Idx); idx_vars x; pointwise [stateVal, k0_pay18, k0_pay15, k0_pay17]
  · intro (x : S1x128x256.Idx); idx_vars x; pointwise [stateVal, k0_pay11, k0_pay10]
  · intro (x : S1x128x256.Idx); idx_vars x; pointwise [stateVal, k0_pay7, k0_pay5, k0_pay6, k0_pay3]
  · exact View.cover_of_tiledL (s := S4x128x256) _ ![1, 128, 256] (by sl_kernel_rfl) y

/-- One row of one head before the normalization: the block's decayed scores against its values, plus the queries against the carried state. -/
def yVal (q k : FVec Ideal S256x512 .bf16) (v : FVec Ideal S256x1024 .bf16) (dec qd : FVec Ideal S4x256x256 .f32)
    (S : FVec Ideal S4x128x256 .f32) (h : Fin 4) (r e : Fin 256) : EReal :=
  (∑ j : Fin 256, ((∑ d : Fin 128, q (ix2 r ⟨h.val * 128 + d.val, by omega⟩) * k (ix2 j ⟨h.val * 128 + d.val, by omega⟩)) * dec (ix3 h r j))
      * v (ix2 j ⟨h.val * 256 + e.val, by omega⟩))
    + (∑ d : Fin 128, q (ix2 r ⟨h.val * 128 + d.val, by omega⟩) * S (ix3 h d e)) * qd (ix3 h r e)

/-- Entry `e` of a row of 256, less the row's mean, over the root of its variance. -/
def norm (f : Fin 256 → EReal) (e : Fin 256) : EReal :=
  (f e - Ideal.div (∑ l, f l) (Ideal.ofBits .f32 0x43800000#32))
    * Ideal.rsqrt (Ideal.div (∑ i, (f i - Ideal.div (∑ l, f l) (Ideal.ofBits .f32 0x43800000#32)) * (f i - Ideal.div (∑ l, f l) (Ideal.ofBits .f32 0x43800000#32)))
        (Ideal.ofBits .f32 0x43800000#32) + Ideal.ofBits .f32 0x3727C5AC#32)

/-- What a block's output holds: each head's normalized row, gated. -/
def outVal (q k : FVec Ideal S256x512 .bf16) (v g : FVec Ideal S256x1024 .bf16) (dec qd : FVec Ideal S4x256x256 .f32)
    (S : FVec Ideal S4x128x256 .f32) : FVec Ideal S256x1024 .bf16 := fun y =>
  (g y * Ideal.logistic (g y))
    * norm (yVal q k v dec qd S ⟨(y 1).val / 256, by have := (y 1).isLt; simp [Shape.Coord] at *; omega⟩ (y 0)) ⟨(y 1).val % 256, by omega⟩

theorem out_B (c : Dev nD) (t : Fin cfg0.N) (h0 : ¬t.val % 32 = 0) :
    (outsAt0 m c t.val t.isLt).1
      = outVal (iblk m c 0 t) (iblk m c 1 t) (iblk m c 2 t) (iblk m c 3 t) (iblk m c 4 t) (iblk m c 5 t)
          (outsAt0 m c (t.val - 1) (Nat.lt_of_le_of_lt (Nat.sub_le _ _) t.isLt)).2 := by
  funext y
  rw [outsAt0_B m c t h0]
  frame_out
  generalize (outsAt0 m c (t.val - 1) (Nat.lt_of_le_of_lt (Nat.sub_le _ _) t.isLt)).2 = S
  simp only [read_unread_whole]
  refine canon_of_loadsOf (e := .bf16) (outVal (iblk m c 0 t) (iblk m c 1 t) (iblk m c 2 t) (iblk m c 3 t) (iblk m c 4 t) (iblk m c 5 t) S) [] [_, _, _, _] ⟨?_, ?_, ?_, ?_, trivial⟩ y ?_
  · intro (x : S256x256.Idx); idx_vars x
    have hd : (768 + x1.val) / 256 = 3 := by omega
    have hm : (768 + x1.val) % 256 = x1.val := by omega
    pointwise [outVal, norm, yVal, k0_pay1, k0_pay24, k0_pay23, k0_pay20, k0_pay21, hd, hm]
    try rfl
  · intro (x : S256x256.Idx); idx_vars x
    have hd : (512 + x1.val) / 256 = 2 := by omega
    have hm : (512 + x1.val) % 256 = x1.val := by omega
    pointwise [outVal, norm, yVal, k0_pay19, k0_pay16, k0_pay15, hd, hm]
    try rfl
  · intro (x : S256x256.Idx); idx_vars x
    have hd : (256 + x1.val) / 256 = 1 := by omega
    have hm : (256 + x1.val) % 256 = x1.val := by omega
    pointwise [outVal, norm, yVal, k0_pay14, k0_pay13, k0_pay12, k0_pay10, k0_pay9, hd, hm]
    try rfl
  · intro (x : S256x256.Idx); idx_vars x
    have hd : x1.val / 256 = 0 := by omega
    have hm : x1.val % 256 = x1.val := by omega
    pointwise [outVal, norm, yVal, k0_pay8, k0_pay4, k0_pay3, hd, hm]
    try rfl
  · exact View.cover_of_tiledL (s := S256x1024) _ ![256, 256] (by sl_kernel_rfl) y

theorem out_A (c : Dev nD) (t : Fin cfg0.N) (h0 : t.val % 32 = 0) :
    (outsAt0 m c t.val t.isLt).1
      = outVal (iblk m c 0 t) (iblk m c 1 t) (iblk m c 2 t) (iblk m c 3 t) (iblk m c 4 t) (iblk m c 5 t)
          (k0_pay2 (F := Ideal)) := by
  funext y
  rw [outsAt0_A m c t h0]
  frame_open
  simp (disch := decide) only [↓ View.readCov_skip, ↓ View.readCov_cons_toLoadRect, ↓ View.readCov_fill]
  frame_out
  generalize (k0_pay2 (F := Ideal)) = S
  refine canon_of_loadsOf (e := .bf16) (outVal (iblk m c 0 t) (iblk m c 1 t) (iblk m c 2 t) (iblk m c 3 t) (iblk m c 4 t) (iblk m c 5 t) S) [] [_, _, _, _] ⟨?_, ?_, ?_, ?_, trivial⟩ y ?_
  · intro (x : S256x256.Idx); idx_vars x
    have hd : (768 + x1.val) / 256 = 3 := by omega
    have hm : (768 + x1.val) % 256 = x1.val := by omega
    pointwise [outVal, norm, yVal, k0_pay1, k0_pay24, k0_pay23, k0_pay20, k0_pay21, hd, hm]
    try rfl
  · intro (x : S256x256.Idx); idx_vars x
    have hd : (512 + x1.val) / 256 = 2 := by omega
    have hm : (512 + x1.val) % 256 = x1.val := by omega
    pointwise [outVal, norm, yVal, k0_pay19, k0_pay16, k0_pay15, hd, hm]
    try rfl
  · intro (x : S256x256.Idx); idx_vars x
    have hd : (256 + x1.val) / 256 = 1 := by omega
    have hm : (256 + x1.val) % 256 = x1.val := by omega
    pointwise [outVal, norm, yVal, k0_pay14, k0_pay13, k0_pay12, k0_pay10, k0_pay9, hd, hm]
    try rfl
  · intro (x : S256x256.Idx); idx_vars x
    have hd : x1.val / 256 = 0 := by omega
    have hm : x1.val % 256 = x1.val := by omega
    pointwise [outVal, norm, yVal, k0_pay8, k0_pay4, k0_pay3, hd, hm]
    try rfl
  · exact View.cover_of_tiledL (s := S256x1024) _ ![256, 256] (by sl_kernel_rfl) y

end Cert.KernelIdeal.RetBody

end
-- ==== Proof.RetRef.lean ====
module

public import proofs.«01_k».proof.Proof.Gen.ReferenceIdeal.Step
public import proofs.«01_k».proof.Proof.RetBody
public import Idealize.ShloMosaic.Lib.Pointwise
public import Idealize.ShloMosaic.Lib.WordCmp
public import Idealize.ShloMosaic.Lib.DynamicIndex

@[expose] public section

set_option maxRecDepth 16384

noncomputable section

open Idealize.ShloMosaic Idealize.ShloMosaic.WordCmp

namespace Cert.ReferenceIdeal.RetRef

open Cert.ReferenceIdeal Cert.ReferenceIdeal.Gen Cert.ReferenceIdeal.Step

variable (X : FVec Ideal S16384x6144 .bf16)

/-- The start of a trip's slice: chunk `j` on the leading axis, nothing on the others. -/
def at5 (j : ℕ) : Fin 5 → ℕ := ![j, 0, 0, 0, 0]

theorem starts (j : Fin 32) (a : Fin 5) :
    (![(constantI S_ 32 (BitVec.ofNat 32 j.val) : (⟨S_, .i32⟩ : BufTy).Contents (Elt Ideal)), constantI S_ 32 0#32,
      constantI S_ 32 0#32, constantI S_ 32 0#32, constantI S_ 32 0#32] a (Shape.Idx.first h_S_)).toInt = (at5 j.val a : ℤ) := by
  fin_cases a
  · exact (by decide : ∀ j : Fin 32, (BitVec.ofNat 32 j.val).toInt = (j.val : ℤ)) j
  all_goals rfl

theorem fits_q (j : Fin 32) : S32x2x4x256x128.Slices (at5 j.val) S1x2x4x256x128 :=
  (by decide +kernel : ∀ j : Fin 32, S32x2x4x256x128.Slices (at5 j.val) S1x2x4x256x128) j
theorem fits_y (j : Fin 32) : S32x2x4x256x256.Slices (at5 j.val) S1x2x4x256x256 :=
  (by decide +kernel : ∀ j : Fin 32, S32x2x4x256x256.Slices (at5 j.val) S1x2x4x256x256) j
theorem fits_kv (j : Fin 32) : S32x2x4x128x256.Slices (at5 j.val) S1x2x4x128x256 :=
  (by decide +kernel : ∀ j : Fin 32, S32x2x4x128x256.Slices (at5 j.val) S1x2x4x128x256) j

theorem chunk_q (j : Fin 32) (s : State Ideal) (b : Fin 2) (h : Fin 4) (r : Fin 256) (d : Fin 128) :
    b5 j.val s (ix4 b h r d) = s.main_v74_0 (ix5 j b h r d) := by
  rw [b5, show b4 j.val s = extractStridedSlice _ _ _ (fits_q j) from
    Host.dynamicSlice_eq_extractStridedSlice _ _ _ _ _ (fits_q j) (starts j)]
  pointwise [at5]

theorem chunk_y (j : Fin 32) (s : State Ideal) (b : Fin 2) (h : Fin 4) (r e : Fin 256) :
    b11 j.val s (ix4 b h r e) = s.main_v74_1 (ix5 j b h r e) := by
  rw [b11, show b10 j.val s = extractStridedSlice _ _ _ (fits_y j) from
    Host.dynamicSlice_eq_extractStridedSlice _ _ _ _ _ (fits_y j) (starts j)]
  pointwise [at5]

theorem chunk_kv (j : Fin 32) (s : State Ideal) (b : Fin 2) (h : Fin 4) (d : Fin 128) (e : Fin 256) :
    b17 j.val s (ix4 b h d e) = s.main_v74_2 (ix5 j b h d e) := by
  rw [b17, show b16 j.val s = extractStridedSlice _ _ _ (fits_kv j) from
    Host.dynamicSlice_eq_extractStridedSlice _ _ _ _ _ (fits_kv j) (starts j)]
  pointwise [at5]

theorem state_at (j : Fin 32) (s : State Ideal) (b : Fin 2) (h : Fin 4) (d : Fin 128) (e : Fin 256) :
    b25 j.val s (ix4 b h d e) = s.main_v74_6 (ix4 b h d e) * K_main_v65 (F := Ideal) (ix1 h) + s.main_v74_2 (ix5 j b h d e) := by
  rw [← chunk_kv]
  pointwise [b25, b24, b23, b22]

theorem y_at (j : Fin 32) (s : State Ideal) (b : Fin 2) (h : Fin 4) (r e : Fin 256) :
    b26 j.val s (ix4 b h r e) = s.main_v74_1 (ix5 j b h r e)
      + (∑ d : Fin 128, s.main_v74_0 (ix5 j b h r d) * s.main_v74_6 (ix4 b h d e)) * K_main_v62 (F := Ideal) (ix2 h r) := by
  simp only [← chunk_q, ← chunk_y]
  pointwise [b26, b21, b20, b19, b18]

theorem ys_at (j : Fin 32) (s : State Ideal) (n : Fin 32) (b : Fin 2) (h : Fin 4) (r e : Fin 256) :
    b32 j.val s (ix5 n b h r e) = if n = j then b26 j.val s (ix4 b h r e) else s.main_v74_7 (ix5 n b h r e) := by
  rw [show b32 j.val s = updateSlice _ _ _ (fits_y j) from
    dynamicUpdateSlice_eq_update _ _ _ _ _ (fits_y j) (starts j)]
  pointwise [at5, b27]
  exact if_congr ⟨fun e => Fin.ext (by omega), fun e => by subst e; omega⟩ rfl rfl

/-- Token row of chunk `n`, place `r`, in sequence `b`. -/
def row (b : Fin 2) (n : Fin 32) (r : Fin 256) : Fin 16384 := ⟨b.val * 8192 + (n.val * 256 + r.val), by omega⟩

def qcol (h : Fin 4) (d : Fin 128) : Fin 6144 := ⟨1024 + (h.val * 128 + d.val), by omega⟩
def kcol (h : Fin 4) (d : Fin 128) : Fin 6144 := ⟨1536 + (h.val * 128 + d.val), by omega⟩
def vcol (h : Fin 4) (e : Fin 256) : Fin 6144 := ⟨2048 + (h.val * 256 + e.val), by omega⟩
def gcol (h : Fin 4) (e : Fin 256) : Fin 6144 := ⟨3072 + (h.val * 256 + e.val), by omega⟩

/-- The rounded value of one over the square root of the key width, which scales the keys. -/
def sc : EReal := Ideal.ofBits .f32 1035273459#32

theorem q_at (n : Fin 32) (b : Fin 2) (h : Fin 4) (r : Fin 256) (d : Fin 128) :
    A_main_v71 (F := Ideal) X (ix5 n b h r d) = X (ix2 (row b n r) (qcol h d)) := by
  pointwise [A_main_v71, A_main_v22, A_main_v3, A_main_v2, A_main_v1, A_main_v0, row, qcol]

theorem kv_at (n : Fin 32) (b : Fin 2) (h : Fin 4) (d : Fin 128) (e : Fin 256) :
    A_main_v69 (F := Ideal) X (ix5 n b h d e) = ∑ x : Fin 256, X (ix2 (row b n x) (kcol h d)) * sc
      * K_main_v54 (F := Ideal) (ix2 h x) * X (ix2 (row b n x) (vcol h e)) := by
  pointwise [A_main_v69, A_main_v68, A_main_v24, A_main_v23, A_main_v21, A_main_v11, A_main_v10, A_main_v9, A_main_v8,
    A_main_v7, A_main_v6, A_main_v5, A_main_v4, K_main_v20, K_main_cst_2, K_main_v67, K_main_v66, row, kcol, vcol, sc]

theorem inner_at (n : Fin 32) (b : Fin 2) (h : Fin 4) (r e : Fin 256) :
    A_main_v72 (F := Ideal) X (ix5 n b h r e) = ∑ x : Fin 256, (∑ d : Fin 128, X (ix2 (row b n r) (qcol h d))
      * (X (ix2 (row b n x) (kcol h d)) * sc)) * K_main_v41 (F := Ideal) (ix3 h r x) * X (ix2 (row b n x) (vcol h e)) := by
  pointwise [A_main_v72, A_main_v46, A_main_v45, A_main_v42, A_main_v22, A_main_v3, A_main_v2, A_main_v1, A_main_v0,
    A_main_v24, A_main_v23, A_main_v21, A_main_v11, A_main_v10, A_main_v9, A_main_v8, A_main_v7, A_main_v6, A_main_v5,
    A_main_v4, K_main_v20, K_main_cst_2, K_main_v44, K_main_v43, row, qcol, kcol, vcol, sc]

/-- The reference's loop after `n` trips. -/
def it (n : ℕ) : State Ideal := Nat.rec (init X) step n

theorem it_q (n : ℕ) : (it X n).main_v74_0 = A_main_v71 (F := Ideal) X := by
  induction n with
  | zero => rfl
  | succ n ih => exact ih

theorem it_y (n : ℕ) : (it X n).main_v74_1 = A_main_v72 (F := Ideal) X := by
  induction n with
  | zero => rfl
  | succ n ih => exact ih

theorem it_kv (n : ℕ) : (it X n).main_v74_2 = A_main_v69 (F := Ideal) X := by
  induction n with
  | zero => rfl
  | succ n ih => exact ih

/-- The recurrent state after `n` chunks. -/
def S (n : ℕ) (b : Fin 2) (h : Fin 4) (d : Fin 128) (e : Fin 256) : EReal := (it X n).main_v74_6 (ix4 b h d e)

theorem S_zero (b : Fin 2) (h : Fin 4) (d : Fin 128) (e : Fin 256) : S X 0 b h d e = 0 := by
  show (K_main_v70 (F := Ideal)) (ix4 b h d e) = 0
  pointwise [K_main_v70, K_main_cst_9]

theorem S_succ (n : Fin 32) (b : Fin 2) (h : Fin 4) (d : Fin 128) (e : Fin 256) :
    S X (n.val + 1) b h d e = S X n.val b h d e * K_main_v65 (F := Ideal) (ix1 h)
      + ∑ x : Fin 256, X (ix2 (row b n x) (kcol h d)) * sc * K_main_v54 (F := Ideal) (ix2 h x) * X (ix2 (row b n x) (vcol h e)) := by
  rw [← kv_at, ← it_kv X n.val]
  exact state_at n (it X n.val) b h d e

/-- What the reference computes for chunk `n` before the norm. -/
def Y (n : Fin 32) (b : Fin 2) (h : Fin 4) (r e : Fin 256) : EReal :=
  (∑ x : Fin 256, (∑ d : Fin 128, X (ix2 (row b n r) (qcol h d))
      * (X (ix2 (row b n x) (kcol h d)) * sc)) * K_main_v41 (F := Ideal) (ix3 h r x) * X (ix2 (row b n x) (vcol h e)))
    + (∑ d : Fin 128, X (ix2 (row b n r) (qcol h d)) * S X n.val b h d e) * K_main_v62 (F := Ideal) (ix2 h r)

theorem Y_at (n : Fin 32) (b : Fin 2) (h : Fin 4) (r e : Fin 256) : b26 n.val (it X n.val) (ix4 b h r e) = Y X n b h r e := by
  rw [y_at, it_q, it_y, inner_at]
  simp only [q_at]
  rfl

theorem ys_prefix (k : ℕ) (hk : k ≤ 32) (n : Fin 32) (hn : n.val < k) (b : Fin 2) (h : Fin 4) (r e : Fin 256) :
    (it X k).main_v74_7 (ix5 n b h r e) = Y X n b h r e := by
  induction k with
  | zero => omega
  | succ k ih =>
    have hj : k < 32 := hk
    refine (ys_at ⟨k, hj⟩ (it X k) n b h r e).trans ?_
    by_cases hnk : n.val = k
    · have e : n = ⟨k, hj⟩ := Fin.ext hnk
      rw [if_pos e]
      subst e
      exact Y_at X ⟨k, hj⟩ b h r _
    · rw [if_neg (fun e => hnk (by rw [e]))]
      exact ih (by omega) (by omega)

theorem ys_final (n : Fin 32) (b : Fin 2) (h : Fin 4) (r e : Fin 256) :
    (it X 32).main_v74_7 (ix5 n b h r e) = Y X n b h r e := ys_prefix X 32 le_rfl n n.isLt b h r e

theorem out_gen (s : State Ideal) (T : Fin 16384) (l : Fin 1024) (f : Fin 256 → EReal)
    (hf : ∀ x : Fin 256, s.main_v74_7 (ix5 (⟨T.val % 8192 / 256, by omega⟩ : Fin 32) (⟨T.val / 8192, by omega⟩ : Fin 2)
      (⟨l.val / 256, by omega⟩ : Fin 4) (⟨T.val % 8192 % 256, by omega⟩ : Fin 256) x) = f x) :
    R_main_v101 s X (ix2 T l)
      = X (ix2 T ⟨3072 + l.val, by omega⟩) * Ideal.logistic (X (ix2 T ⟨3072 + l.val, by omega⟩))
        * Cert.KernelIdeal.RetBody.norm f ⟨l.val % 256, by omega⟩ := by
  pointwise [R_main_v101, hf]
  rfl

end Cert.ReferenceIdeal.RetRef

end
-- ==== Proof.RetRefRun.lean ====
module

public import proofs.«01_k».proof.Proof.Gen.ReferenceIdeal.Run
public import proofs.«01_k».proof.Proof.RetRef

@[expose] public section

set_option maxRecDepth 16384

noncomputable section

namespace Cert.ReferenceIdeal.RetRefRun

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

/-- A valuation of the reference's buffers at the start of trip `j`, whose carried values are the state `s`. -/
structure Carries (W : Valuation τ sig (Elt Ideal)) (s : State Ideal) (j : ℕ) : Prop where
  state : W (Proc.devRef .tc main_v74_6) = s.main_v74_6
  rows : W (Proc.devRef .tc main_v74_7) = s.main_v74_7
  queries : W (Proc.devRef .tc main_v74_0) = s.main_v74_0
  inner : W (Proc.devRef .tc main_v74_1) = s.main_v74_1
  pairs : W (Proc.devRef .tc main_v74_2) = s.main_v74_2
  trip : W (Proc.devRef .tc main_v74_5) = constantI S_ 32 (BitVec.ofNat 32 j)
  qdecay : W (Proc.devRef .tc main_v74_3) = K_main_v62 (F := Ideal)
  cdecay : W (Proc.devRef .tc main_v74_4) = K_main_v65 (F := Ideal)

variable {W : Valuation τ sig (Elt Ideal)} {s : State Ideal} {j : ℕ}

theorem trip_state (h : Carries W s j) : Value.step_main_v74_6 W = b25 j s := by
  unfold Value.step_main_v74_6
  rw [h.state, h.pairs, h.trip, h.cdecay]
  rfl

theorem trip_rows (h : Carries W s j) : Value.step_main_v74_7 W = b32 j s := by
  unfold Value.step_main_v74_7
  rw [h.state, h.rows, h.queries, h.inner, h.trip, h.qdecay]
  rfl

theorem trip_next (h : Carries W s j) : step_main_v74_5 W = constantI S_ 32 (BitVec.ofNat 32 (j + 1)) := by
  unfold step_main_v74_5
  rw [h.trip]
  funext i
  show BitVec.ofNat 32 j + 1#32 = BitVec.ofNat 32 (j + 1)
  simp only [BitVec.ofNat_add]

theorem Carries.next (h : Carries W s j) : Carries (STEP W) (step j s) (j + 1) where
  state := (STEP_main_v74_6 W).trans (trip_state h)
  rows := (STEP_main_v74_7 W).trans (trip_rows h)
  queries := (STEP_main_v74_0 W).trans h.queries
  inner := (STEP_main_v74_1 W).trans h.inner
  pairs := (STEP_main_v74_2 W).trans h.pairs
  trip := (STEP_main_v74_5 W).trans (trip_next h)
  qdecay := (STEP_main_v74_3 W).trans h.qdecay
  cdecay := (STEP_main_v74_4 W).trans h.cdecay

variable (m : (ℓ : Loc nD τ sig) → Buf (Elt Ideal) ℓ) (c : Dev nD)

set_option maxRecDepth 65536 in
/-- The host's operations before the loop leave the first state. -/
theorem carries_zero : Carries (entryContents preI m c) (init (m ((c.tc : Thread nD τ).loc main_arg0))) 0 := by
  constructor <;> (simp only [entryContents, afterL_cons, afterL_nil]; after_reads_simp) <;> rfl

theorem carries (n : ℕ) : Carries (STEP^[n] (entryContents preI m c)) (RetRef.it (m ((c.tc : Thread nD τ).loc main_arg0)) n) n := by
  induction n with
  | zero => exact carries_zero m c
  | succ n ih =>
    rw [Function.iterate_succ_apply']
    exact ih.next

set_option maxRecDepth 65536 in
theorem result_at (h : Carries W s j) {x : FVec Ideal S16384x6144 .bf16} (hx : W (Proc.devRef .tc main_arg0) = x) :
    out_main_v101 W = R_main_v101 s x := by
  unfold out_main_v101 R_main_v101
  rw [h.rows, hx]
  rfl

/-- The reference's run ends at the result of its thirty-two trips. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v101) = R_main_v101 (RetRef.it (m ((c.tc : Thread nD τ).loc main_arg0)) 32)
          (m ((c.tc : Thread nD τ).loc main_arg0))
      ∧ r.2.mem ((c.tc : Thread nD τ).loc main_arg0) = m ((c.tc : Thread nD τ).loc main_arg0) :=
  (θ_run defs _ _).mono (fun _ h c =>
    ⟨(h c).1.trans (result_at (carries m c 32) (iter_main_arg0 m c 32)), (h c).2⟩) (Value.run m ρ)

end Cert.ReferenceIdeal.RetRefRun

end
-- ==== Proof.RetInputs.lean ====
module

public import proofs.«01_k».proof.Proof.Gen.KernelIdeal.Value
public import proofs.«01_k».proof.Proof.RetRef
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.RetEq

open Cert.KernelIdeal Cert.KernelIdeal.Gen Cert.KernelIdeal.RetBody
open Cert.ReferenceIdeal.RetRef (row qcol kcol vcol gcol sc)
open Cert.ReferenceIdeal.Step

variable (m : (ℓ : Loc nD τ sig) → Buf (Elt Ideal) ℓ)

theorem idx : ∀ t : Fin grid0.N, win0_0.index t = ![t.val, 2] ∧ win0_1.index t = ![t.val, 3] ∧ win0_2.index t = ![t.val, 2]
    ∧ win0_3.index t = ![t.val, 3] ∧ win0_4.index t = ![0, 0, 0] ∧ win0_5.index t = ![0, 0, 0]
    ∧ win0_6.index t = ![0, 0, 0] ∧ win0_7.index t = ![0, 0] ∧ win0_8.index t = ![t.val, 0] := by
  decide +kernel

/-- The projections the kernel reads. -/
abbrev X (c : Dev nD) : FVec Ideal S16384x6144 .bf16 := m ((c : Thread nD τ).loc main_arg0)

section
variable (c : Dev nD) (t : Fin grid0.N) (b : Fin 2) (n : Fin 32) (ht : t.val = 32 * b.val + n.val)
include ht

theorem q_blk (h : Fin 4) (r : Fin 256) (d : Fin 128) :
    (iblk m c 0 t : FVec Ideal S256x512 .bf16) (ix2 r (⟨h.val * 128 + d.val, by omega⟩ : Fin 512)) = X m c (ix2 (row b n r) (qcol h d)) := by
  blk_ext [iblk, V, idx t, row, qcol]

theorem k_blk (h : Fin 4) (r : Fin 256) (d : Fin 128) :
    (iblk m c 1 t : FVec Ideal S256x512 .bf16) (ix2 r (⟨h.val * 128 + d.val, by omega⟩ : Fin 512)) = X m c (ix2 (row b n r) (kcol h d)) := by
  blk_ext [iblk, V, idx t, row, kcol]

theorem v_blk (h : Fin 4) (r : Fin 256) (e : Fin 256) :
    (iblk m c 2 t : FVec Ideal S256x1024 .bf16) (ix2 r (⟨h.val * 256 + e.val, by omega⟩ : Fin 1024)) = X m c (ix2 (row b n r) (vcol h e)) := by
  blk_ext [iblk, V, idx t, row, vcol]

theorem g_blk (h : Fin 4) (r : Fin 256) (e : Fin 256) :
    (iblk m c 3 t : FVec Ideal S256x1024 .bf16) (ix2 r (⟨h.val * 256 + e.val, by omega⟩ : Fin 1024)) = X m c (ix2 (row b n r) (gcol h e)) := by
  blk_ext [iblk, V, idx t, row, gcol]
end

section
variable (c : Dev nD) (t : Fin grid0.N)

theorem dec_blk (h : Fin 4) (r j : Fin 256) :
    (iblk m c 4 t : FVec Ideal S4x256x256 .f32) (ix3 h r j) = K_main_v41 (F := Ideal) (ix3 h r j) * sc := by
  have e : (iblk m c 4 t : FVec Ideal S4x256x256 .f32) (ix3 h r j) = (V m c main_v26 : FVec Ideal S4x256x256 .f32) (ix3 h r j) := by
    blk_ext [iblk, idx t]
  rw [e]
  simp only [V, hostOps0, hostOps0_1, hostOps0_2, List.flatten_cons, List.cons_append, List.nil_append, List.flatten_nil,
    List.append_nil]
  entry_read
  simp only [StableHlo.TRef.ofBuf_toBuf]
  simp only [StableHlo.TRef.ofBuf, StableHlo.TRef.toBuf, eqRec_eq_cast, cast_eq]
  pointwise [K_main_v41, K_main_call0_v1, K_main_v32, K_main_v30, K_main_v28, K_main_v26, K_main_v25, K_main_v29, K_main_v27, K_main_v31, K_main_cst_3, K_main_v40, K_main_v39, K_main_v37, K_main_v33, K_main_v19, K_main_v18, K_main_v17, K_main_cst_1, K_main_v16, K_main_v15, K_main_cst_0, K_main_v14, K_main_v13, K_main_cst, K_main_v12, K_main_v38, K_main_v36, K_main_v35, K_main_v34, K_main_cst_4, K_main_call0_v2, K_main_call0_v0, K_main_cst_5, sc, id_eq]

theorem kd_blk (h : Fin 4) (j : Fin 256) (d : Fin 128) :
    (iblk m c 6 t : FVec Ideal S4x256x128 .f32) (ix3 h j d) = K_main_v54 (F := Ideal) (ix2 h j) * sc := by
  have e : (iblk m c 6 t : FVec Ideal S4x256x128 .f32) (ix3 h j d) = (V m c main_v48 : FVec Ideal S4x256x128 .f32) (ix3 h j d) := by
    blk_ext [iblk, idx t]
  rw [e]
  simp only [V, hostOps0, hostOps0_1, hostOps0_2, List.flatten_cons, List.cons_append, List.nil_append, List.flatten_nil,
    List.append_nil]
  entry_read
  pointwise [K_main_v54, K_main_v53, K_main_v51, K_main_v47, K_main_v19, K_main_v18, K_main_v17, K_main_cst_1, K_main_v16, K_main_v15, K_main_cst_0, K_main_v14, K_main_v13, K_main_cst, K_main_v12, K_main_v52, K_main_v50, K_main_v49, K_main_v48, K_main_cst_6, K_main_v25, sc]

theorem qd_blk (h : Fin 4) (r l : Fin 256) :
    (iblk m c 5 t : FVec Ideal S4x256x256 .f32) (ix3 h r l) = K_main_v62 (F := Ideal) (ix2 h r) := by
  have e : (iblk m c 5 t : FVec Ideal S4x256x256 .f32) (ix3 h r l) = (V m c main_v36 : FVec Ideal S4x256x256 .f32) (ix3 h r l) := by
    blk_ext [iblk, idx t]
  rw [e]
  simp only [V, hostOps0, hostOps0_1, hostOps0_2, List.flatten_cons, List.cons_append, List.nil_append, List.flatten_nil,
    List.append_nil]
  entry_read
  pointwise [K_main_v62, K_main_v61, K_main_v59, K_main_v55, K_main_v19, K_main_v18, K_main_v17, K_main_cst_1, K_main_v16, K_main_v15, K_main_cst_0, K_main_v14, K_main_v13, K_main_cst, K_main_v12, K_main_v60, K_main_v58, K_main_v57, K_main_v25, K_main_v56, K_main_cst_7, sc]

theorem cd_blk (h : Fin 4) (l : Fin 256) :
    (iblk m c 7 t : FVec Ideal S4x256 .f32) (ix2 h l) = K_main_v65 (F := Ideal) (ix1 h) := by
  have e : (iblk m c 7 t : FVec Ideal S4x256 .f32) (ix2 h l) = (V m c main_v53 : FVec Ideal S4x256 .f32) (ix2 h l) := by
    blk_ext [iblk, idx t]
  rw [e]
  simp only [V, hostOps0, hostOps0_1, hostOps0_2, List.flatten_cons, List.cons_append, List.nil_append, List.flatten_nil,
    List.append_nil]
  entry_read
  pointwise [K_main_v65, K_main_v64, K_main_v19, K_main_v18, K_main_v17, K_main_cst_1, K_main_v16, K_main_v15, K_main_cst_0, K_main_v14, K_main_v13, K_main_cst, K_main_v12, K_main_v63, K_main_cst_8, sc]
end

end Cert.KernelIdeal.RetEq

end
-- ==== Proof.RetEq.lean ====
module

public import proofs.«01_k».proof.Proof.RetInputs
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.RetEq

open Cert.KernelIdeal Cert.KernelIdeal.Gen Cert.KernelIdeal.RetBody
open Cert.ReferenceIdeal.RetRef (row qcol kcol vcol gcol sc)
open Cert.ReferenceIdeal.Step

variable (m : (ℓ : Loc nD τ sig) → Buf (Elt Ideal) ℓ)

theorem sc_value : sc = ((11863283 / 134217728 : ℝ) : EReal) := by
  unfold sc
  simp [Ideal.ofBits, Ideal.ieee, -EReal.coe_mul]; norm_num

theorem sc_nonneg : 0 ≤ sc := by
  rw [sc_value]
  exact EReal.coe_nonneg.mpr (by norm_num)

theorem sc_ne_top : sc ≠ ⊤ := by
  rw [sc_value]
  exact EReal.coe_ne_top _

/-- The scale leaves a sum. -/
theorem sum_mul_sc {ι : Type} (s : Finset ι) (f : ι → EReal) : ∑ x ∈ s, f x * sc = (∑ x ∈ s, f x) * sc := by
  classical
  induction s using Finset.induction_on with
  | empty => simp
  | insert a s ha ih => rw [Finset.sum_insert ha, Finset.sum_insert ha, ih, EReal.right_distrib_of_nonneg_of_ne_top sc_nonneg sc_ne_top]

theorem ix3_surj (y : S4x128x256.Idx) : ∃ (h : Fin 4) (d : Fin 128) (e : Fin 256), y = ix3 h d e := by
  idx_vars y
  exact ⟨_, _, _, rfl⟩

/-- The decayed keys of a chunk against its values, as the reference scales them. -/
theorem kv_term (c : Dev nD) (t : Fin grid0.N) (b : Fin 2) (n : Fin 32) (ht : t.val = 32 * b.val + n.val)
    (P : FVec Ideal S4x128x256 .f32) (h : Fin 4) (d : Fin 128) (e : Fin 256) :
    stateVal (iblk m c 1 t) (iblk m c 2 t) (iblk m c 6 t) (iblk m c 7 t) P (ix3 h d e)
      = P (ix3 h d e) * K_main_v65 (F := Ideal) (ix1 h) + ∑ x : Fin 256, X m c (ix2 (row b n x) (kcol h d)) * sc
        * K_main_v54 (F := Ideal) (ix2 h x) * X m c (ix2 (row b n x) (vcol h e)) := by
  refine congrArg₂ (· + ·) (congrArg₂ (fun a b : EReal => a * b) rfl (cd_blk m c t h e)) (Finset.sum_congr rfl fun x _ => ?_)
  refine congrArg₂ (fun a b : EReal => a * b) ?_ (v_blk m c t b n ht h x e)
  refine (congrArg₂ (fun a b : EReal => a * b) (k_blk m c t b n ht h x d) (kd_blk m c t h x d)).trans ?_
  show (_ : EReal) * (_ * _) = _ * _ * _
  rw [mul_assoc, mul_comm sc]

theorem zero_fill (y : S4x128x256.Idx) : (k0_pay2 (F := Ideal)) y = (0 : EReal) := by
  pointwise [k0_pay2]

/-- After chunk `n` the kernel's scratch holds the reference's state after `n + 1` trips. -/
theorem state_eq (c : Dev nD) (b : Fin 2) (n : ℕ) (hn : n < 32) (t : Fin grid0.N) (ht : t.val = 32 * b.val + n)
    (h : Fin 4) (d : Fin 128) (e : Fin 256) :
    (outsAt0 m c t.val t.isLt).2 (ix3 h d e) = Cert.ReferenceIdeal.RetRef.S (X m c) (n + 1) b h d e := by
  induction n generalizing t h d e with
  | zero =>
    rw [state_A m c t (by omega), kv_term m c t b ⟨0, hn⟩ ht, zero_fill]
    rw [Cert.ReferenceIdeal.RetRef.S_succ (X m c) ⟨0, hn⟩, Cert.ReferenceIdeal.RetRef.S_zero]
  | succ n ih =>
    have hp : t.val - 1 < grid0.N := Nat.lt_of_le_of_lt (Nat.sub_le _ _) t.isLt
    rw [state_B m c t (by omega), kv_term m c t b ⟨n + 1, hn⟩ ht,
      ih (by omega) ⟨t.val - 1, hp⟩ (show t.val - 1 = _ by omega)]
    exact (Cert.ReferenceIdeal.RetRef.S_succ (X m c) ⟨n + 1, hn⟩ b h d e).symm

/-- A chunk's values before the norm are the reference's, given the state it starts from. -/
theorem y_term (c : Dev nD) (t : Fin grid0.N) (b : Fin 2) (n : Fin 32) (ht : t.val = 32 * b.val + n.val)
    (P : FVec Ideal S4x128x256 .f32) (h : Fin 4)
    (hP : ∀ (d : Fin 128) (e : Fin 256), P (ix3 h d e) = Cert.ReferenceIdeal.RetRef.S (X m c) n.val b h d e) (r e : Fin 256) :
    yVal (iblk m c 0 t) (iblk m c 1 t) (iblk m c 2 t) (iblk m c 4 t) (iblk m c 5 t) P h r e
      = Cert.ReferenceIdeal.RetRef.Y (X m c) n b h r e := by
  unfold yVal Cert.ReferenceIdeal.RetRef.Y
  refine congrArg₂ (· + ·) (Finset.sum_congr rfl fun x _ => ?_)
    (congrArg₂ (fun a b : EReal => a * b) (Finset.sum_congr rfl fun d _ => congrArg₂ (fun a b : EReal => a * b) (q_blk m c t b n ht h r d) (hP d e)) (qd_blk m c t h r e))
  refine congrArg₂ (fun a b : EReal => a * b) ?_ (v_blk m c t b n ht h x e)
  refine (congrArg₂ (fun a b : EReal => a * b) (Finset.sum_congr rfl fun d _ => congrArg₂ (fun a b : EReal => a * b) (q_blk m c t b n ht h r d) (k_blk m c t b n ht h x d))
    (dec_blk m c t h r x)).trans ?_
  show (∑ d : Fin 128, _ * _) * (_ * sc) = (∑ d : Fin 128, _ * (_ * sc)) * _
  simp only [← mul_assoc]
  rw [sum_mul_sc, mul_assoc, mul_assoc, mul_comm sc]

/-- A block of the kernel's result is the reference's rows. -/
theorem out_eq (c : Dev nD) (t : Fin grid0.N) (b : Fin 2) (n : Fin 32) (ht : t.val = 32 * b.val + n.val)
    (h : Fin 4) (r e : Fin 256) :
    (outsAt0 m c t.val t.isLt).1 (ix2 r (⟨h.val * 256 + e.val, by omega⟩ : Fin 1024))
      = X m c (ix2 (row b n r) (gcol h e)) * Ideal.logistic (X m c (ix2 (row b n r) (gcol h e)))
        * norm (Cert.ReferenceIdeal.RetRef.Y (X m c) n b h r) e := by
  have h1 : (⟨(h.val * 256 + e.val) / 256, by omega⟩ : Fin 4) = h := Fin.ext (by show (h.val * 256 + e.val) / 256 = h.val; omega)
  have h2 : (⟨(h.val * 256 + e.val) % 256, by omega⟩ : Fin 256) = e := Fin.ext (by show (h.val * 256 + e.val) % 256 = e.val; omega)
  have key : ∀ P : FVec Ideal S4x128x256 .f32,
      (∀ (d : Fin 128) (l : Fin 256), P (ix3 h d l) = Cert.ReferenceIdeal.RetRef.S (X m c) n.val b h d l) →
      outVal (iblk m c 0 t) (iblk m c 1 t) (iblk m c 2 t) (iblk m c 3 t) (iblk m c 4 t) (iblk m c 5 t) P
        (ix2 r (⟨h.val * 256 + e.val, by omega⟩ : Fin 1024))
      = X m c (ix2 (row b n r) (gcol h e)) * Ideal.logistic (X m c (ix2 (row b n r) (gcol h e)))
        * norm (Cert.ReferenceIdeal.RetRef.Y (X m c) n b h r) e := by
    intro P hP
    have hg := g_blk m c t b n ht h r e
    refine congrArg₂ (fun a b : EReal => a * b) (congrArg₂ (fun a b : EReal => a * b) hg (congrArg Ideal.logistic hg)) ?_
    have hy : yVal (iblk m c 0 t) (iblk m c 1 t) (iblk m c 2 t) (iblk m c 4 t) (iblk m c 5 t) P
        (⟨(h.val * 256 + e.val) / 256, by omega⟩ : Fin 4) r = Cert.ReferenceIdeal.RetRef.Y (X m c) n b h r := by
      rw [h1]
      exact funext fun l => y_term m c t b n ht P h hP r l
    exact congrArg₂ norm hy h2
  by_cases h0 : t.val % 32 = 0
  · rw [out_A m c t h0]
    refine key _ fun d l => ?_
    have hn : n.val = 0 := by omega
    rw [zero_fill, hn, Cert.ReferenceIdeal.RetRef.S_zero]
  · have hp : t.val - 1 < grid0.N := Nat.lt_of_le_of_lt (Nat.sub_le _ _) t.isLt
    rw [out_B m c t h0]
    refine key _ fun d l => ?_
    have hn : n.val = (n.val - 1) + 1 := by omega
    rw [state_eq m c b (n.val - 1) (by omega) ⟨t.val - 1, hp⟩ (show t.val - 1 = _ by omega), ← hn]

/-- The kernel's result is the reference's. -/
theorem value (c : Dev nD) : Value.G8 m c
    = Cert.ReferenceIdeal.Step.R_main_v101 (F := Ideal) (Cert.ReferenceIdeal.RetRef.it (X m c) 32) (X m c) := by
  rw [← Value.final8]
  refine (dats m 0 c).arrAt_eq_of_covers 8 _ (by decide +kernel) fun t hf y => ?_
  blk_simp
  rw [after0_8]
  have hN : t.val < 64 := t.isLt
  change S256x1024.Idx at y
  idx_vars y
  have hb : t.val / 32 < 2 := by omega
  have hn : t.val % 32 < 32 := by omega
  have hh : y1.val / 256 < 4 := by omega
  have hl : y1.val % 256 < 256 := by omega
  have ht : t.val = 32 * (t.val / 32) + t.val % 32 := by omega
  have e : (((View.whole main_v54).slice (win0_8.rect t)).emb (ix2 y0 y1) : S16384x1024.Idx)
      = ix2 (⟨t.val * 256 + y0.val, by omega⟩ : Fin 16384) y1 := by
    blk_ext [idx t]
  have hy1 : y1 = (⟨(⟨y1.val / 256, hh⟩ : Fin 4).val * 256 + (⟨y1.val % 256, hl⟩ : Fin 256).val, by
      show y1.val / 256 * 256 + y1.val % 256 < 1024; omega⟩ : Fin 1024) :=
    Fin.ext (by show y1.val = y1.val / 256 * 256 + y1.val % 256; omega)
  have hrow : (⟨t.val * 256 + y0.val, by omega⟩ : Fin 16384) = row ⟨t.val / 32, hb⟩ ⟨t.val % 32, hn⟩ y0 :=
    Fin.ext (by show t.val * 256 + y0.val = t.val / 32 * 8192 + (t.val % 32 * 256 + y0.val); omega)
  have hcol : (⟨3072 + y1.val, by omega⟩ : Fin 6144) = gcol ⟨y1.val / 256, hh⟩ ⟨y1.val % 256, hl⟩ :=
    Fin.ext (by show 3072 + y1.val = 3072 + (y1.val / 256 * 256 + y1.val % 256); omega)
  have hk := out_eq m c t ⟨t.val / 32, hb⟩ ⟨t.val % 32, hn⟩ ht ⟨y1.val / 256, hh⟩ y0 ⟨y1.val % 256, hl⟩
  have hr := Cert.ReferenceIdeal.RetRef.out_gen (X m c) (Cert.ReferenceIdeal.RetRef.it (X m c) 32)
    ⟨t.val * 256 + y0.val, by omega⟩ y1
    (Cert.ReferenceIdeal.RetRef.Y (X m c) ⟨t.val % 32, hn⟩ ⟨t.val / 32, hb⟩ ⟨y1.val / 256, hh⟩ y0) (fun x => by
      rw [← Cert.ReferenceIdeal.RetRef.ys_final]
      exact congrArg (Cert.ReferenceIdeal.RetRef.it (X m c) 32).main_v74_7 (by blk_ext []))
  rw [← hy1] at hk
  rw [hcol, hrow] at hr
  refine hk.trans (hr.symm.trans ?_)
  exact congrArg _ ((congrArg (fun a => ix2 a y1) hrow.symm).trans e.symm)

end Cert.KernelIdeal.RetEq

end
-- ==== Proof.MergeRef.lean ====
module

public import proofs.«01_k».proof.Proof.Gen.MergeReferenceIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeReferenceIdeal.MergeRef

open Cert.MergeReferenceIdeal Cert.MergeReferenceIdeal.Gen Cert.MergeReferenceIdeal.Value

/-- The row of the flat arrays that position `s` of sequence `b` takes. -/
abbrev row (b : Fin 2) (s : Fin 8192) : Fin 16384 := ⟨b.val * 8192 + s.val, by omega⟩

/-- What is normalized, at position `s` of sequence `b` and channel `d`: the scaled residual and the gated branches mixed. -/
def preVal (ya : FVec Ideal S2x512x8192 .f32) (yr : FVec Ideal S16384x1024 .bf16) (pr : FVec Ideal S16384x6144 .bf16)
    (x : FVec Ideal S16384x1024 .f32) (wa : FVec Ideal S512x1024 .f32) (wr wo : FVec Ideal S1024x1024 .f32)
    (b : Fin 2) (s : Fin 8192) (d : Fin 1024) : EReal :=
  Ideal.ofBits .f32 0x3FB504F3#32 * x (ix2 (row b s) d)
    + ∑ k : Fin 1024, (Ideal.logistic (pr (ix2 (row b s) (⟨4096 + k.val, by omega⟩ : Fin 6144))) * (∑ e : Fin 512, ya (ix3 b e s) * wa (ix2 e k))
      + Ideal.logistic (pr (ix2 (row b s) (⟨5120 + k.val, by omega⟩ : Fin 6144))) * (∑ e : Fin 1024, yr (ix2 (row b s) e) * wr (ix2 e k)))
      * wo (ix2 k d)

/-- The layer norm of the row `p`, at channel `d`. -/
def lnVal (p : Fin 1024 → EReal) (g h : FVec Ideal S1024 .f32) (d : Fin 1024) : EReal :=
  (p d - Ideal.div (∑ k, p k) (Ideal.ofBits .f32 0x44800000#32))
    * Ideal.rsqrt (Ideal.div (∑ k, (p k - Ideal.div (∑ k, p k) (Ideal.ofBits .f32 0x44800000#32))
        * (p k - Ideal.div (∑ k, p k) (Ideal.ofBits .f32 0x44800000#32))) (Ideal.ofBits .f32 0x44800000#32) + Ideal.ofBits .f32 0x3727C5AC#32)
    * g (ix1 d) + h (ix1 d)

/-- The argument at place 0, read as an array. -/
abbrev A0 (m : (ℓ : Loc nD τ sig) → Buf (Elt Ideal) ℓ) (c : Dev nD) : FVec Ideal S2x512x8192 .f32 := m ((c.tc : Thread nD τ).loc main_arg0)
/-- The argument at place 1, read as an array. -/
abbrev A1 (m : (ℓ : Loc nD τ sig) → Buf (Elt Ideal) ℓ) (c : Dev nD) : FVec Ideal S16384x1024 .bf16 := m ((c.tc : Thread nD τ).loc main_arg1)
/-- The argument at place 2, read as an array. -/
abbrev A2 (m : (ℓ : Loc nD τ sig) → Buf (Elt Ideal) ℓ) (c : Dev nD) : FVec Ideal S16384x6144 .bf16 := m ((c.tc : Thread nD τ).loc main_arg2)
/-- The argument at place 3, read as an array. -/
abbrev A3 (m : (ℓ : Loc nD τ sig) → Buf (Elt Ideal) ℓ) (c : Dev nD) : FVec Ideal S16384x1024 .f32 := m ((c.tc : Thread nD τ).loc main_arg3)
/-- The argument at place 4, read as an array. -/
abbrev A4 (m : (ℓ : Loc nD τ sig) → Buf (Elt Ideal) ℓ) (c : Dev nD) : FVec Ideal S512x1024 .f32 := m ((c.tc : Thread nD τ).loc main_arg4)
/-- The argument at place 5, read as an array. -/
abbrev A5 (m : (ℓ : Loc nD τ sig) → Buf (Elt Ideal) ℓ) (c : Dev nD) : FVec Ideal S1024x1024 .f32 := m ((c.tc : Thread nD τ).loc main_arg5)
/-- The argument at place 6, read as an array. -/
abbrev A6 (m : (ℓ : Loc nD τ sig) → Buf (Elt Ideal) ℓ) (c : Dev nD) : FVec Ideal S1024x1024 .f32 := m ((c.tc : Thread nD τ).loc main_arg6)
/-- The argument at place 7, read as an array. -/
abbrev A7 (m : (ℓ : Loc nD τ sig) → Buf (Elt Ideal) ℓ) (c : Dev nD) : FVec Ideal S1024 .f32 := m ((c.tc : Thread nD τ).loc main_arg7)
/-- The argument at place 8, read as an array. -/
abbrev A8 (m : (ℓ : Loc nD τ sig) → Buf (Elt Ideal) ℓ) (c : Dev nD) : FVec Ideal S1024 .f32 := m ((c.tc : Thread nD τ).loc main_arg8)

/-- The reference's term before its layer norm. -/
def pre (m : (ℓ : Loc nD τ sig) → Buf (Elt Ideal) ℓ) (c : Dev nD) : FVec Ideal S2x8192x1024 .f32 :=
    addf (mulf (broadcastInDim S2x8192x1024 ![] bcast_S_S2x8192x1024 (constant S_ .f32 0x3FB504F3#32)) (shapeCast _ (A3 m c) shapeCasts_S16384x1024_S2x8192x1024)) (Host.dotGeneral dot_S2x8192x1024_S1024x1024_S2x8192x1024_2_0_01_1_n_n none (addf (mulf (Host.divf
    (broadcastInDim S2x8192x1024 ![] bcast_S_S2x8192x1024 (constant S_ .f32 0x3F800000#32)) (addf (broadcastInDim S2x8192x1024 ![] bcast_S_S2x8192x1024
    (constant S_ .f32 0x3F800000#32)) (Host.exp (Host.negf (extf .f32 (shapeCast _ (extractStridedSlice S16384x1024 ![0, 4096] (A2 m c) slices_S16384x6144_S16384x1024_0_4096) shapeCasts_S16384x1024_S2x8192x1024) bitsLt_bf16_f32))))) (Host.dotGeneral
    dot_S2x8192x512_S512x1024_S2x8192x1024_2_0_01_1_n_n none (transpose S2x8192x512 [0, 2, 1] (A0 m c)
    transposes_S2x512x8192_S2x8192x512_0_2_1) (A4 m c))) (mulf (Host.divf (broadcastInDim S2x8192x1024 ![]
    bcast_S_S2x8192x1024 (constant S_ .f32 0x3F800000#32)) (addf (broadcastInDim S2x8192x1024 ![] bcast_S_S2x8192x1024 (constant S_ .f32 0x3F800000#32))
    (Host.exp (Host.negf (extf .f32 (shapeCast _ (extractStridedSlice S16384x1024 ![0, 5120] (A2 m c)
    slices_S16384x6144_S16384x1024_0_5120) shapeCasts_S16384x1024_S2x8192x1024) bitsLt_bf16_f32))))) (Host.dotGeneral
    dot_S2x8192x1024_S1024x1024_S2x8192x1024_2_0_01_1_n_n none (extf .f32 (shapeCast _ (A1 m c)
    shapeCasts_S16384x1024_S2x8192x1024) bitsLt_bf16_f32) (A5 m c)))) (A6 m c))

/-- The reference's layer norm of `P`. -/
def ln (m : (ℓ : Loc nD τ sig) → Buf (Elt Ideal) ℓ) (c : Dev nD) (P : FVec Ideal S2x8192x1024 .f32) : FVec Ideal S16384x1024 .f32 :=
    shapeCast _ (addf (mulf (mulf (subf P (broadcastInDim S2x8192x1024 ![0, 1, 2] bcast_S2x8192x1_S2x8192x1024_0_1_2 (Host.divf (broadcastInDim S2x8192x1
    ![0, 1] bcast_S2x8192_S2x8192x1_0_1 (Host.reduceAdd P (constant S_ .f32 0x00000000#32) reducesTo_S2x8192x1024_S2x8192_d2 h_S_)) (broadcastInDim
    S2x8192x1 ![] bcast_S_S2x8192x1 (constant S_ .f32 0x44800000#32))))) (broadcastInDim S2x8192x1024 ![0, 1, 2] bcast_S2x8192x1_S2x8192x1024_0_1_2
    (Host.rsqrt (addf (Host.divf (broadcastInDim S2x8192x1 ![0, 1] bcast_S2x8192_S2x8192x1_0_1 (Host.reduceAdd (mulf (subf P (broadcastInDim S2x8192x1024
    ![0, 1, 2] bcast_S2x8192x1_S2x8192x1024_0_1_2 (Host.divf (broadcastInDim S2x8192x1 ![0, 1] bcast_S2x8192_S2x8192x1_0_1 (Host.reduceAdd P (constant S_
    .f32 0x00000000#32) reducesTo_S2x8192x1024_S2x8192_d2 h_S_)) (broadcastInDim S2x8192x1 ![] bcast_S_S2x8192x1 (constant S_ .f32 0x44800000#32)))))
    (subf P (broadcastInDim S2x8192x1024 ![0, 1, 2] bcast_S2x8192x1_S2x8192x1024_0_1_2 (Host.divf (broadcastInDim S2x8192x1 ![0, 1]
    bcast_S2x8192_S2x8192x1_0_1 (Host.reduceAdd P (constant S_ .f32 0x00000000#32) reducesTo_S2x8192x1024_S2x8192_d2 h_S_)) (broadcastInDim S2x8192x1 ![]
    bcast_S_S2x8192x1 (constant S_ .f32 0x44800000#32)))))) (constant S_ .f32 0x00000000#32) reducesTo_S2x8192x1024_S2x8192_d2 h_S_)) (broadcastInDim
    S2x8192x1 ![] bcast_S_S2x8192x1 (constant S_ .f32 0x44800000#32))) (broadcastInDim S2x8192x1 ![] bcast_S_S2x8192x1 (constant S_ .f32
    0x3727C5AC#32)))))) (broadcastInDim S2x8192x1024 ![0, 1, 2] bcast_S1x1x1024_S2x8192x1024_0_1_2 (broadcastInDim S1x1x1024 ![2] bcast_S1024_S1x1x1024_2
    (A7 m c)))) (broadcastInDim S2x8192x1024 ![0, 1, 2] bcast_S1x1x1024_S2x8192x1024_0_1_2 (broadcastInDim S1x1x1024 ![2]
    bcast_S1024_S1x1x1024_2 (A8 m c)))) shapeCasts_S2x8192x1024_S16384x1024

theorem res_eq (m : (ℓ : Loc nD τ sig) → Buf (Elt Ideal) ℓ) (c : Dev nD) : res_main_v55 m c = ln m c (pre m c) := rfl

theorem pre_at (m : (ℓ : Loc nD τ sig) → Buf (Elt Ideal) ℓ) (c : Dev nD) (b : Fin 2) (s : Fin 8192) (d : Fin 1024) :
    pre m c (ix3 b s d) = preVal (A0 m c) (A1 m c)
      (A2 m c) (A3 m c) (A4 m c)
      (A5 m c) (A6 m c) b s d := by
  pointwise [pre, preVal, row]
  rfl

theorem ln_at (m : (ℓ : Loc nD τ sig) → Buf (Elt Ideal) ℓ) (c : Dev nD) (P : FVec Ideal S2x8192x1024 .f32)
    (b : Fin 2) (s : Fin 8192) (d : Fin 1024) :
    ln m c P (ix2 (row b s) d) = lnVal (fun k => P (ix3 b s k)) (A7 m c)
      (A8 m c) d := by
  pointwise [ln, lnVal, row]

/-- The reference's first result, entry by entry. -/
theorem res_at (m : (ℓ : Loc nD τ sig) → Buf (Elt Ideal) ℓ) (c : Dev nD) (b : Fin 2) (s : Fin 8192) (d : Fin 1024) :
    (res_main_v55 m c : FVec Ideal S16384x1024 .f32) (ix2 (row b s) d)
      = lnVal (preVal (A0 m c) (A1 m c) (A2 m c) (A3 m c) (A4 m c) (A5 m c) (A6 m c) b s) (A7 m c) (A8 m c) d := by
  rw [res_eq]
  exact (ln_at m c (pre m c) b s d).trans (congrArg (fun p => lnVal p _ _ d) (funext fun k => pre_at m c b s k))

/-- The second result is the first rounded, which changes no value here. -/
theorem res_round (m : (ℓ : Loc nD τ sig) → Buf (Elt Ideal) ℓ) (c : Dev nD) :
    res_main_v56 m c = (truncf .bf16 (res_main_v55 m c : FVec Ideal S16384x1024 .f32) bitsLt_bf16_f32 : FVec Ideal S16384x1024 .bf16) := rfl

theorem res_at' (m : (ℓ : Loc nD τ sig) → Buf (Elt Ideal) ℓ) (c : Dev nD) (b : Fin 2) (s : Fin 8192) (d : Fin 1024) :
    (res_main_v56 m c : FVec Ideal S16384x1024 .bf16) (ix2 (row b s) d)
      = lnVal (preVal (A0 m c) (A1 m c) (A2 m c) (A3 m c) (A4 m c) (A5 m c) (A6 m c) b s) (A7 m c) (A8 m c) d := by
  rw [res_round]
  exact res_at m c b s d

end Cert.MergeReferenceIdeal.MergeRef

end
-- ==== Proof.MergeEq.lean ====
module

public import proofs.«01_k».proof.Proof.Gen.MergeIdeal.Value
public import proofs.«01_k».proof.Proof.MergeRef
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeIdeal.MergeEq

open Cert.MergeIdeal Cert.MergeIdeal.Gen
open Cert.MergeReferenceIdeal.MergeRef (row preVal lnVal)

variable (m : (ℓ : Loc nD τ sig) → Buf (Elt Ideal) ℓ)

/-- The block every window holds at step `t`. -/
theorem idx : ∀ t : Fin grid0.N, win0_0.index t = ![t.val / 16, 0, t.val % 16] ∧ win0_1.index t = ![t.val, 0]
    ∧ win0_2.index t = ![t.val, 4] ∧ win0_3.index t = ![t.val, 5] ∧ win0_4.index t = ![t.val, 0]
    ∧ win0_5.index t = ![0, 0] ∧ win0_6.index t = ![0, 0] ∧ win0_7.index t = ![0, 0] ∧ win0_8.index t = ![0, 0]
    ∧ win0_9.index t = ![0, 0] ∧ win0_10.index t = ![t.val, 0] ∧ win0_11.index t = ![t.val, 0] := by
  decide +kernel

section
variable (c : Dev nD) (t : Fin grid0.N) (b : Fin 2) (s : Fin 8192) (r : Fin 512) (ht : t.val * 512 + r.val = b.val * 8192 + s.val)
include ht

theorem ya_blk (e : Fin 512) : (iblk m c 0 t : FVec Ideal S1x512x512 .f32) (ix3 (0 : Fin 1) e r)
    = (m ((c : Thread nD τ).loc main_arg0) : FVec Ideal S2x512x8192 .f32) (ix3 b e s) := by
  blk_ext [iblk, V, idx t]

theorem yr_blk (e : Fin 1024) : (iblk m c 1 t : FVec Ideal S512x1024 .bf16) (ix2 r e)
    = (m ((c : Thread nD τ).loc main_arg1) : FVec Ideal S16384x1024 .bf16) (ix2 (row b s) e) := by
  blk_ext [iblk, V, idx t, row]

theorem ga_blk (e : Fin 1024) : (iblk m c 2 t : FVec Ideal S512x1024 .bf16) (ix2 r e)
    = (m ((c : Thread nD τ).loc main_arg2) : FVec Ideal S16384x6144 .bf16) (ix2 (row b s) (⟨4096 + e.val, by omega⟩ : Fin 6144)) := by
  blk_ext [iblk, V, idx t, row]

theorem gr_blk (e : Fin 1024) : (iblk m c 3 t : FVec Ideal S512x1024 .bf16) (ix2 r e)
    = (m ((c : Thread nD τ).loc main_arg2) : FVec Ideal S16384x6144 .bf16) (ix2 (row b s) (⟨5120 + e.val, by omega⟩ : Fin 6144)) := by
  blk_ext [iblk, V, idx t, row]

theorem x_blk (e : Fin 1024) : (iblk m c 4 t : FVec Ideal S512x1024 .f32) (ix2 r e)
    = (m ((c : Thread nD τ).loc main_arg3) : FVec Ideal S16384x1024 .f32) (ix2 (row b s) e) := by
  blk_ext [iblk, V, idx t, row]
end

section
variable (c : Dev nD) (t : Fin grid0.N)

theorem wa_blk (e : Fin 512) (d : Fin 1024) : (iblk m c 5 t : FVec Ideal S512x1024 .bf16) (ix2 e d)
    = (m ((c : Thread nD τ).loc main_arg4) : FVec Ideal S512x1024 .f32) (ix2 e d) := by
  have q : (iblk m c 5 t : FVec Ideal S512x1024 .bf16) (ix2 e d) = (V m c main_v0 : FVec Ideal S512x1024 .bf16) (ix2 e d) := by
    blk_ext [iblk, idx t]
  rw [q]
  entry_read
  pointwise []

theorem wr_blk (e : Fin 1024) (d : Fin 1024) : (iblk m c 6 t : FVec Ideal S1024x1024 .bf16) (ix2 e d)
    = (m ((c : Thread nD τ).loc main_arg5) : FVec Ideal S1024x1024 .f32) (ix2 e d) := by
  have q : (iblk m c 6 t : FVec Ideal S1024x1024 .bf16) (ix2 e d) = (V m c main_v1 : FVec Ideal S1024x1024 .bf16) (ix2 e d) := by
    blk_ext [iblk, idx t]
  rw [q]
  entry_read
  pointwise []

theorem wo_blk (e : Fin 1024) (d : Fin 1024) : (iblk m c 7 t : FVec Ideal S1024x1024 .bf16) (ix2 e d)
    = (m ((c : Thread nD τ).loc main_arg6) : FVec Ideal S1024x1024 .f32) (ix2 e d) := by
  have q : (iblk m c 7 t : FVec Ideal S1024x1024 .bf16) (ix2 e d) = (V m c main_v2 : FVec Ideal S1024x1024 .bf16) (ix2 e d) := by
    blk_ext [iblk, idx t]
  rw [q]
  entry_read
  pointwise []

theorem g_blk (d : Fin 1024) : (iblk m c 8 t : FVec Ideal S1x1024 .f32) (ix2 (0 : Fin 1) d)
    = (m ((c : Thread nD τ).loc main_arg7) : FVec Ideal S1024 .f32) (ix1 d) := by
  have q : (iblk m c 8 t : FVec Ideal S1x1024 .f32) (ix2 (0 : Fin 1) d) = (V m c main_v3 : FVec Ideal S1x1024 .f32) (ix2 (0 : Fin 1) d) := by
    blk_ext [iblk, idx t]
  rw [q]
  entry_read
  pointwise []

theorem h_blk (d : Fin 1024) : (iblk m c 9 t : FVec Ideal S1x1024 .f32) (ix2 (0 : Fin 1) d)
    = (m ((c : Thread nD τ).loc main_arg8) : FVec Ideal S1024 .f32) (ix1 d) := by
  have q : (iblk m c 9 t : FVec Ideal S1x1024 .f32) (ix2 (0 : Fin 1) d) = (V m c main_v4 : FVec Ideal S1x1024 .f32) (ix2 (0 : Fin 1) d) := by
    blk_ext [iblk, idx t]
  rw [q]
  entry_read
  pointwise []

end

theorem pre_at (c : Dev nD) (t : Fin grid0.N) (b : Fin 2) (s : Fin 8192) (r : Fin 512) (ht : t.val * 512 + r.val = b.val * 8192 + s.val)
    (d : Fin 1024) :
    k0_pay6 (iblk m c 0 t) (iblk m c 1 t) (iblk m c 2 t) (iblk m c 3 t) (iblk m c 4 t) (iblk m c 5 t) (iblk m c 6 t) (iblk m c 7 t)
      (iblk m c 8 t) (iblk m c 9 t) (ix2 r d) = preVal (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) b s d := by
  pointwise [k0_pay6, k0_pay3, preVal]
  simp only [ya_blk m c t b s r ht, yr_blk m c t b s r ht, ga_blk m c t b s r ht, gr_blk m c t b s r ht, x_blk m c t b s r ht,
    wa_blk m c t, wr_blk m c t, wo_blk m c t]

theorem ln_at (p : FVec Ideal S512x1024 .f32) (g h : FVec Ideal S1x1024 .f32) (g' h' : FVec Ideal S1024 .f32)
    (hg : ∀ d, g (ix2 (0 : Fin 1) d) = g' (ix1 d)) (hh : ∀ d, h (ix2 (0 : Fin 1) d) = h' (ix1 d)) (r : Fin 512) (d : Fin 1024) :
    k0_pay1 p g h (ix2 r d) = lnVal (fun k => p (ix2 r k)) g' h' d := by
  pointwise [k0_pay1, lnVal]
  rw [hg, hh]

/-- The layer's result at position `s` of sequence `b` and channel `d`. -/
def res (c : Dev nD) (b : Fin 2) (s : Fin 8192) (d : Fin 1024) : EReal :=
  lnVal (preVal (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) b s)
    (m ((c : Thread nD τ).loc main_arg7)) (m ((c : Thread nD τ).loc main_arg8)) d

/-- Output window 10's block at step `t`, at row `r` and channel `d`. -/
theorem out10_at (c : Dev nD) (t : Fin grid0.N) (b : Fin 2) (s : Fin 8192) (r : Fin 512) (ht : t.val * 512 + r.val = b.val * 8192 + s.val)
    (d : Fin 1024) :
    out0_10 (iblk m c 0 t) (iblk m c 1 t) (iblk m c 2 t) (iblk m c 3 t) (iblk m c 4 t) (iblk m c 5 t) (iblk m c 6 t) (iblk m c 7 t)
      (iblk m c 8 t) (iblk m c 9 t) (ix2 r d) = res m c b s d := by
  frame_out
  refine (ln_at _ _ _ (m ((c : Thread nD τ).loc main_arg7)) (m ((c : Thread nD τ).loc main_arg8)) (fun d => ?_) (fun d => ?_) r d).trans ?_
  · pointwise [k0_pay7, k0_pay4]
    exact g_blk m c t d
  · pointwise [k0_pay8, k0_pay5]
    exact h_blk m c t d
  · exact congrArg (fun p => lnVal p _ _ d) (funext fun k => pre_at m c t b s r ht k)

/-- Output window 11's block at step `t`, at row `r` and channel `d`. -/
theorem out11_at (c : Dev nD) (t : Fin grid0.N) (b : Fin 2) (s : Fin 8192) (r : Fin 512) (ht : t.val * 512 + r.val = b.val * 8192 + s.val)
    (d : Fin 1024) :
    out0_11 (iblk m c 0 t) (iblk m c 1 t) (iblk m c 2 t) (iblk m c 3 t) (iblk m c 4 t) (iblk m c 5 t) (iblk m c 6 t) (iblk m c 7 t)
      (iblk m c 8 t) (iblk m c 9 t) (ix2 r d) = res m c b s d := by
  frame_out
  refine (ln_at _ _ _ (m ((c : Thread nD τ).loc main_arg7)) (m ((c : Thread nD τ).loc main_arg8)) (fun d => ?_) (fun d => ?_) r d).trans ?_
  · pointwise [k0_pay7, k0_pay4]
    exact g_blk m c t d
  · pointwise [k0_pay8, k0_pay5]
    exact h_blk m c t d
  · exact congrArg (fun p => lnVal p _ _ d) (funext fun k => pre_at m c t b s r ht k)

/-- What window 10 holds at the end. -/
theorem value10 (c : Dev nD) (G : FVec Ideal S16384x1024 .f32) (hG : ∀ b s d, G (ix2 (row b s) d) = res m c b s d) :
    (dats m 0 c).arrAt 10 cfg0.N = G := by
  refine (dats m 0 c).arrAt_eq_of_covers 10 G (by decide +kernel) fun t hf y => ?_
  blk_simp
  rw [after0_10]
  have hN : t.val < 32 := t.isLt
  change S512x1024.Idx at y
  idx_vars y
  have hb : t.val / 16 < 2 := by omega
  have hs : t.val % 16 * 512 + y0.val < 8192 := by omega
  have e : (((View.whole main_v5_0).slice (win0_10.rect t)).emb (ix2 y0 y1) : S16384x1024.Idx)
      = ix2 (row ⟨t.val / 16, hb⟩ ⟨t.val % 16 * 512 + y0.val, hs⟩) y1 := by
    blk_ext [idx t, row]
  refine (out10_at m c t ⟨t.val / 16, hb⟩ ⟨t.val % 16 * 512 + y0.val, hs⟩ y0
    (by show t.val * 512 + y0.val = t.val / 16 * 8192 + (t.val % 16 * 512 + y0.val); omega) y1).trans ?_
  exact ((congrArg G e).trans (hG _ _ _)).symm

/-- What window 11 holds at the end. -/
theorem value11 (c : Dev nD) (G : FVec Ideal S16384x1024 .bf16) (hG : ∀ b s d, G (ix2 (row b s) d) = res m c b s d) :
    (dats m 0 c).arrAt 11 cfg0.N = G := by
  refine (dats m 0 c).arrAt_eq_of_covers 11 G (by decide +kernel) fun t hf y => ?_
  blk_simp
  rw [after0_11]
  have hN : t.val < 32 := t.isLt
  change S512x1024.Idx at y
  idx_vars y
  have hb : t.val / 16 < 2 := by omega
  have hs : t.val % 16 * 512 + y0.val < 8192 := by omega
  have e : (((View.whole main_v5_1).slice (win0_11.rect t)).emb (ix2 y0 y1) : S16384x1024.Idx)
      = ix2 (row ⟨t.val / 16, hb⟩ ⟨t.val % 16 * 512 + y0.val, hs⟩) y1 := by
    blk_ext [idx t, row]
  refine (out11_at m c t ⟨t.val / 16, hb⟩ ⟨t.val % 16 * 512 + y0.val, hs⟩ y0
    (by show t.val * 512 + y0.val = t.val / 16 * 8192 + (t.val % 16 * 512 + y0.val); omega) y1).trans ?_
  exact ((congrArg G e).trans (hG _ _ _)).symm

end Cert.MergeIdeal.MergeEq

end
-- ==== Proof.ProjWeights.lean ====
module

public import proofs.«01_k».proof.Proof.Gen.ProjIdeal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.ProjWeights

open Cert.ProjIdeal Cert.ProjIdeal.Gen

/-- The gather of columns read at an entry: the column is the start index, clamped. -/
theorem gather_at (x : FVec Ideal S1024x512 .f32) (idx : IVec S512x1 32) (k : Fin 1024) (j : Fin 512) :
    Host.gather gather_S1024x512_S512x1_S1024x512_0_1_n_n_1_1_10241 x idx (ix2 k j)
      = x (ix2 k (⟨min (idx (ix2 j (0 : Fin 1))).toInt.toNat 511, by omega⟩ : Fin 512)) := by
  unfold Host.gather
  congr 1
  funext a
  refine Fin.ext ?_
  show GatherDims.start gather_S1024x512_S512x1_S1024x512_0_1_n_n_1_1_10241 (ix2 k j) idx a + GatherDims.batchCoord gather_S1024x512_S512x1_S1024x512_0_1_n_n_1_1_10241 (ix2 k j) a
    + GatherDims.offCoord gather_S1024x512_S512x1_S1024x512_0_1_n_n_1_1_10241 (ix2 k j) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil]
    unfold GatherDims.start
    rw [dif_neg (show ¬ (0 : Fin 2) ∈ gather_S1024x512_S512x1_S1024x512_0_1_n_n_1_1_10241.startIndexMap by decide)]
    simp only [Nat.zero_add, Nat.add_zero]
    rfl
  · rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (1 : Fin 2) ∈ gather_S1024x512_S512x1_S1024x512_0_1_n_n_1_1_10241.startIndexMap from List.mem_singleton.mpr rfl)]
    have hsi : gather_S1024x512_S512x1_S1024x512_0_1_n_n_1_1_10241.siIdx (ix2 k j) ⟨List.idxOf (1 : Fin 2) gather_S1024x512_S512x1_S1024x512_0_1_n_n_1_1_10241.startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    rfl

/-- The stored order's permutation: first the even lanes, then the odd ones, of every head. -/
theorem perm_val : ∀ j : Fin 512, min (lit0 j).toInt.toNat 511 = j.val / 128 * 128 + (j.val % 128 / 64 + 2 * (j.val % 64)) := by
  decide +kernel

/-- The permutation's start indices as the program computes them. -/
def perm : IVec S512 32 :=
  select (constantI S512 1 0#1) (addi (fun i => lit0 (S512.rowMajor i)) (broadcastInDim S512 ![] bcast_S_S512 (constantI S_ 32 512#32)))
    (fun i => lit0 (S512.rowMajor i))

theorem perm_at (j : Fin 512) : perm (ix1 j) = lit0 j := by
  pointwise [perm]
  exact congrArg lit0 (Fin.ext (Shape.rowMajor_val_one (ix1 j)))

/-- The columns of a retention slice in stored order. -/
def retW (x : FVec Ideal S1024x512 .f32) : FVec Ideal S1024x512 .f32 :=
  Host.gather gather_S1024x512_S512x1_S1024x512_0_1_n_n_1_1_10241 x (broadcastInDim S512x1 ![0] bcast_S512_S512x1_0 perm)

theorem retW_at (x : FVec Ideal S1024x512 .f32) (k : Fin 1024) (j : Fin 512) :
    retW x (ix2 k j) = x (ix2 k (⟨j.val / 128 * 128 + (j.val % 128 / 64 + 2 * (j.val % 64)), by omega⟩ : Fin 512)) := by
  refine (gather_at x _ k j).trans (congrArg x (congrArg (ix2 k) (Fin.ext ?_)))
  have h : (broadcastInDim S512x1 ![0] bcast_S512_S512x1_0 perm : IVec S512x1 32) (ix2 j (0 : Fin 1)) = lit0 j := by
    refine Eq.trans ?_ (perm_at j)
    pointwise []
  dsimp only
  rw [h]
  exact perm_val j

/-- The columns of the attention queries and keys in stored order. -/
def mobaW (w : FVec Ideal S1024x6656 .f32) : FVec Ideal S1024x1024 .f32 :=
  shapeCast S1024x1024 (transpose S1024x8x2x2x32 [0, 1, 3, 2, 4] (shapeCast S1024x8x2x2x32 (extractStridedSlice S1024x1024 ![0, 0] w slices_S1024x6656_S1024x1024_0_0) shapeCasts_S1024x1024_S1024x8x2x2x32) transposes_S1024x8x2x2x32_S1024x8x2x2x32_0_1_3_2_4) shapeCasts_S1024x8x2x2x32_S1024x1024

theorem mobaW_at (w : FVec Ideal S1024x6656 .f32) (k : Fin 1024) (g : Fin 8) (a f : Fin 2) (l : Fin 32) :
    mobaW w (ix2 k (⟨g.val * 128 + a.val * 64 + f.val * 32 + l.val, by omega⟩ : Fin 1024))
      = w (ix2 k (⟨g.val * 128 + f.val * 64 + a.val * 32 + l.val, by omega⟩ : Fin 6656)) := by
  pointwise [mobaW]

/-- The parts of the stored weight side by side. -/
def catW (a : FVec Ideal S1024x1024 .f32) (b c : FVec Ideal S1024x512 .f32) (d : FVec Ideal S1024x4096 .f32) : FVec Ideal S1024x6144 .f32 :=
  concatenate S1024x6144 1 [⟨S1024x1024, a⟩, ⟨S1024x512, b⟩, ⟨S1024x512, c⟩, ⟨S1024x4096, d⟩] concatenates_S1024x1024_S1024x512_S1024x512_S1024x4096_S1024x6144_d1

section
variable (a : FVec Ideal S1024x1024 .f32) (b c : FVec Ideal S1024x512 .f32) (d : FVec Ideal S1024x4096 .f32) (k : Fin 1024)

theorem catW_a (j : Fin 1024) : catW a b c d (ix2 k (⟨j.val, by omega⟩ : Fin 6144)) = a (ix2 k j) := by
  pointwise [catW]

theorem catW_b (j : Fin 512) : catW a b c d (ix2 k (⟨1024 + j.val, by omega⟩ : Fin 6144)) = b (ix2 k j) := by
  pointwise [catW]

theorem catW_c (j : Fin 512) : catW a b c d (ix2 k (⟨1536 + j.val, by omega⟩ : Fin 6144)) = c (ix2 k j) := by
  pointwise [catW]
  rw [dif_neg (by omega)]
  rw [dif_neg (by omega)]
  rw [dif_pos (by omega)]
  exact congrArg (fun q => c (ix2 k q)) (Fin.ext (by dsimp only; omega))

theorem catW_d (j : Fin 4096) : catW a b c d (ix2 k (⟨2048 + j.val, by omega⟩ : Fin 6144)) = d (ix2 k j) := by
  pointwise [catW]
  rw [dif_neg (by omega)]
  rw [dif_neg (by omega)]
  rw [dif_neg (by omega)]
  exact congrArg (fun q => d (ix2 k q)) (Fin.ext (by dsimp only; omega))
end

/-- The stored weight. -/
def wcols (w : FVec Ideal S1024x6656 .f32) : FVec Ideal S1024x6144 .f32 :=
  catW (mobaW w) (retW (extractStridedSlice S1024x512 ![0, 1536] w slices_S1024x6656_S1024x512_0_1536))
    (retW (extractStridedSlice S1024x512 ![0, 2048] w slices_S1024x6656_S1024x512_0_2048))
    (extractStridedSlice S1024x4096 ![0, 2560] w slices_S1024x6656_S1024x4096_0_2560)

end Cert.ProjIdeal.ProjWeights

end
-- ==== Proof.ProjMoba.lean ====
module

public import proofs.«01_k».proof.Proof.Gen.ProjReferenceIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjReferenceIdeal.ProjRef

open Cert.ProjReferenceIdeal Cert.ProjReferenceIdeal.Gen Cert.ProjReferenceIdeal.Value Idealize.ShloMosaic.StableHlo

/-- Both rotated halves side by side. -/
def halves (x y : FVec Ideal S2x8x8192x32 .f32) (cs sn : FVec Ideal S8192x32 .f32) : FVec Ideal S2x8x8192x64 .f32 :=
  (concatenate S2x8x8192x64 3 [⟨S2x8x8192x32, (subf (mulf x (broadcastInDim S2x8x8192x32 ![0, 1, 2, 3] bcast_S1x1x8192x32_S2x8x8192x32_0_1_2_3 (broadcastInDim S1x1x8192x32 ![2, 3] bcast_S8192x32_S1x1x8192x32_2_3 cs))) (mulf y (broadcastInDim S2x8x8192x32 ![0, 1, 2, 3] bcast_S1x1x8192x32_S2x8x8192x32_0_1_2_3 (broadcastInDim S1x1x8192x32 ![2, 3] bcast_S8192x32_S1x1x8192x32_2_3 sn))))⟩, ⟨S2x8x8192x32, (addf (mulf y (broadcastInDim S2x8x8192x32 ![0, 1, 2, 3] bcast_S1x1x8192x32_S2x8x8192x32_0_1_2_3 (broadcastInDim S1x1x8192x32 ![2, 3] bcast_S8192x32_S1x1x8192x32_2_3 cs))) (mulf x (broadcastInDim S2x8x8192x32 ![0, 1, 2, 3] bcast_S1x1x8192x32_S2x8x8192x32_0_1_2_3 (broadcastInDim S1x1x8192x32 ![2, 3] bcast_S8192x32_S1x1x8192x32_2_3 sn))))⟩] concatenates_S2x8x8192x32_S2x8x8192x32_S2x8x8192x64_d3)

/-- The stored order of the heads' lanes. -/
def stored (w : FVec Ideal S2x8x8192x64 .f32) : FVec Ideal S2x8192x512 .f32 :=
  (shapeCast _ (transpose S2x8192x4x2x2x32 [0, 3, 1, 4, 2, 5] (shapeCast _ w shapeCasts_S2x8x8192x64_S2x4x2x8192x2x32) transposes_S2x4x2x8192x2x32_S2x8192x4x2x2x32_0_3_1_4_2_5) shapeCasts_S2x8192x4x2x2x32_S2x8192x512)

/-- The rotated attention queries or keys, in the order in which the result stores them. -/
def moba (x y : FVec Ideal S2x8x8192x32 .f32) (cs sn : FVec Ideal S8192x32 .f32) : FVec Ideal S2x8192x512 .f32 :=
  stored (halves x y cs sn)

theorem stored_at (w : FVec Ideal S2x8x8192x64 .f32) (b : Fin 2) (s : Fin 8192) (g : Fin 4) (a : Fin 2) (f : Fin 2) (l : Fin 32) :
    stored w (ix3 b s (⟨g.val * 128 + a.val * 64 + f.val * 32 + l.val, by omega⟩ : Fin 512))
      = w (ix4 b (⟨g.val * 2 + f.val, by omega⟩ : Fin 8) s (⟨a.val * 32 + l.val, by omega⟩ : Fin 64)) := by
  pointwise [stored]

theorem halves_first (x y : FVec Ideal S2x8x8192x32 .f32) (cs sn : FVec Ideal S8192x32 .f32) (b : Fin 2) (h : Fin 8) (s : Fin 8192) (l : Fin 32)
    (hl : (0 : Fin 2).val * 32 + l.val < 64) :
    halves x y cs sn (ix4 b h s (⟨(0 : Fin 2).val * 32 + l.val, hl⟩ : Fin 64))
      = x (ix4 b h s l) * cs (ix2 s l) - y (ix4 b h s l) * sn (ix2 s l) := by
  pointwise [halves]

theorem halves_second (x y : FVec Ideal S2x8x8192x32 .f32) (cs sn : FVec Ideal S8192x32 .f32) (b : Fin 2) (h : Fin 8) (s : Fin 8192) (l : Fin 32)
    (hl : (1 : Fin 2).val * 32 + l.val < 64) :
    halves x y cs sn (ix4 b h s (⟨(1 : Fin 2).val * 32 + l.val, hl⟩ : Fin 64))
      = y (ix4 b h s l) * cs (ix2 s l) + x (ix4 b h s l) * sn (ix2 s l) := by
  pointwise [halves]

theorem moba_first (x y : FVec Ideal S2x8x8192x32 .f32) (cs sn : FVec Ideal S8192x32 .f32) (b : Fin 2) (s : Fin 8192) (g : Fin 4) (f : Fin 2) (l : Fin 32) :
    moba x y cs sn (ix3 b s (⟨g.val * 128 + 0 * 64 + f.val * 32 + l.val, by omega⟩ : Fin 512))
      = x (ix4 b (⟨g.val * 2 + f.val, by omega⟩ : Fin 8) s l) * cs (ix2 s l)
        - y (ix4 b (⟨g.val * 2 + f.val, by omega⟩ : Fin 8) s l) * sn (ix2 s l) :=
  (stored_at _ b s g 0 f l).trans (halves_first x y cs sn b _ s l _)

theorem moba_second (x y : FVec Ideal S2x8x8192x32 .f32) (cs sn : FVec Ideal S8192x32 .f32) (b : Fin 2) (s : Fin 8192) (g : Fin 4) (f : Fin 2) (l : Fin 32) :
    moba x y cs sn (ix3 b s (⟨g.val * 128 + 1 * 64 + f.val * 32 + l.val, by omega⟩ : Fin 512))
      = y (ix4 b (⟨g.val * 2 + f.val, by omega⟩ : Fin 8) s l) * cs (ix2 s l)
        + x (ix4 b (⟨g.val * 2 + f.val, by omega⟩ : Fin 8) s l) * sn (ix2 s l) :=
  (stored_at _ b s g 1 f l).trans (halves_second x y cs sn b _ s l _)

end Cert.ProjReferenceIdeal.ProjRef

end
-- ==== Proof.ProjRet.lean ====
module

public import proofs.«01_k».proof.Proof.Gen.ProjReferenceIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjReferenceIdeal.ProjRef

open Cert.ProjReferenceIdeal Cert.ProjReferenceIdeal.Gen Cert.ProjReferenceIdeal.Value Idealize.ShloMosaic.StableHlo

/-- The rotated retention queries or keys, in the order in which the result stores them. -/
def ret (x y : FVec Ideal S2x4x8192x64 .f32) (cs sn : FVec Ideal S8192x64 .f32) : FVec Ideal S2x8192x512 .f32 :=
  (shapeCast _ (transpose S2x8192x4x2x64 [0, 2, 1, 4, 3] (shapeCast _ (shapeCast _ (concatenate S2x4x8192x64x2 4 [⟨S2x4x8192x64x1, (broadcastInDim S2x4x8192x64x1 ![0, 1, 2, 3] bcast_S2x4x8192x64_S2x4x8192x64x1_0_1_2_3 (subf (mulf x (broadcastInDim S2x4x8192x64 ![0, 1, 2, 3] bcast_S1x1x8192x64_S2x4x8192x64_0_1_2_3 (broadcastInDim S1x1x8192x64 ![2, 3] bcast_S8192x64_S1x1x8192x64_2_3 cs))) (mulf y (broadcastInDim S2x4x8192x64 ![0, 1, 2, 3] bcast_S1x1x8192x64_S2x4x8192x64_0_1_2_3 (broadcastInDim S1x1x8192x64 ![2, 3] bcast_S8192x64_S1x1x8192x64_2_3 sn)))))⟩, ⟨S2x4x8192x64x1, (broadcastInDim S2x4x8192x64x1 ![0, 1, 2, 3] bcast_S2x4x8192x64_S2x4x8192x64x1_0_1_2_3 (addf (mulf y (broadcastInDim S2x4x8192x64 ![0, 1, 2, 3] bcast_S1x1x8192x64_S2x4x8192x64_0_1_2_3 (broadcastInDim S1x1x8192x64 ![2, 3] bcast_S8192x64_S1x1x8192x64_2_3 cs))) (mulf x (broadcastInDim S2x4x8192x64 ![0, 1, 2, 3] bcast_S1x1x8192x64_S2x4x8192x64_0_1_2_3 (broadcastInDim S1x1x8192x64 ![2, 3] bcast_S8192x64_S1x1x8192x64_2_3 sn)))))⟩] concatenates_S2x4x8192x64x1_S2x4x8192x64x1_S2x4x8192x64x2_d4) shapeCasts_S2x4x8192x64x2_S2x4x8192x128) shapeCasts_S2x4x8192x128_S2x4x8192x64x2) transposes_S2x4x8192x64x2_S2x8192x4x2x64_0_2_1_4_3) shapeCasts_S2x8192x4x2x64_S2x8192x512)

section Pieces

variable (x y : FVec Ideal S2x4x8192x64 .f32) (cs sn : FVec Ideal S8192x64 .f32)

theorem ret_first (b : Fin 2) (s : Fin 8192) (h : Fin 4) (i : Fin 64) :
    ret x y cs sn (ix3 b s (⟨h.val * 128 + i.val, by omega⟩ : Fin 512))
      = x (ix4 b h s i) * cs (ix2 s i) - y (ix4 b h s i) * sn (ix2 s i) := by
  have h1 : (h.val * 128 + i.val) / 64 % 2 = 0 := by omega
  pointwise [ret, h1]

theorem ret_second (b : Fin 2) (s : Fin 8192) (h : Fin 4) (i : Fin 64) :
    ret x y cs sn (ix3 b s (⟨h.val * 128 + 64 + i.val, by omega⟩ : Fin 512))
      = y (ix4 b h s i) * cs (ix2 s i) + x (ix4 b h s i) * sn (ix2 s i) := by
  have h1 : (h.val * 128 + 64 + i.val) / 64 % 2 = 1 := by omega
  pointwise [ret, h1]

end Pieces

end Cert.ProjReferenceIdeal.ProjRef

end
-- ==== Proof.ProjCat.lean ====
module

public import proofs.«01_k».proof.Proof.Gen.ProjReferenceIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjReferenceIdeal.ProjRef

open Cert.ProjReferenceIdeal Cert.ProjReferenceIdeal.Gen Cert.ProjReferenceIdeal.Value Idealize.ShloMosaic.StableHlo

/-- The parts of the result side by side. -/
def cat (a b c d : FVec Ideal S2x8192x512 .f32) (e f g h : FVec Ideal S2x8192x1024 .f32) : FVec Ideal S2x8192x6144 .f32 :=
  concatenate S2x8192x6144 2 [⟨S2x8192x512, a⟩, ⟨S2x8192x512, b⟩, ⟨S2x8192x512, c⟩, ⟨S2x8192x512, d⟩, ⟨S2x8192x1024, e⟩, ⟨S2x8192x1024, f⟩, ⟨S2x8192x1024, g⟩, ⟨S2x8192x1024, h⟩] concatenates_S2x8192x512_S2x8192x512_S2x8192x512_S2x8192x512_S2x8192x1024_S2x8192x1024_S2x8192x1024_S2x8192x1024_S2x8192x6144_d2

section Cat

variable (a b c d : FVec Ideal S2x8192x512 .f32) (e f g h : FVec Ideal S2x8192x1024 .f32)

theorem cat_a (n : Fin 2) (s : Fin 8192) (j : Fin 512) :
    cat a b c d e f g h (ix3 n s (⟨0 + j.val, by omega⟩ : Fin 6144)) = a (ix3 n s j) := by
  pointwise [cat]

theorem cat_b (n : Fin 2) (s : Fin 8192) (j : Fin 512) :
    cat a b c d e f g h (ix3 n s (⟨512 + j.val, by omega⟩ : Fin 6144)) = b (ix3 n s j) := by
  pointwise [cat]

theorem cat_c (n : Fin 2) (s : Fin 8192) (j : Fin 512) :
    cat a b c d e f g h (ix3 n s (⟨1024 + j.val, by omega⟩ : Fin 6144)) = c (ix3 n s j) := by
  pointwise [cat]
  rw [dif_neg (by omega)]
  rw [dif_neg (by omega)]
  rw [dif_pos (by omega)]
  exact congrArg (fun q => c (ix3 n s q)) (Fin.ext (by dsimp only; omega))

theorem cat_d (n : Fin 2) (s : Fin 8192) (j : Fin 512) :
    cat a b c d e f g h (ix3 n s (⟨1536 + j.val, by omega⟩ : Fin 6144)) = d (ix3 n s j) := by
  pointwise [cat]
  rw [dif_neg (by omega)]
  rw [dif_neg (by omega)]
  rw [dif_neg (by omega)]
  rw [dif_pos (by omega)]
  exact congrArg (fun q => d (ix3 n s q)) (Fin.ext (by dsimp only; omega))

theorem cat_e (n : Fin 2) (s : Fin 8192) (j : Fin 1024) :
    cat a b c d e f g h (ix3 n s (⟨2048 + j.val, by omega⟩ : Fin 6144)) = e (ix3 n s j) := by
  pointwise [cat]
  rw [dif_neg (by omega)]
  rw [dif_neg (by omega)]
  rw [dif_neg (by omega)]
  rw [dif_neg (by omega)]
  rw [dif_pos (by omega)]
  exact congrArg (fun q => e (ix3 n s q)) (Fin.ext (by dsimp only; omega))

theorem cat_f (n : Fin 2) (s : Fin 8192) (j : Fin 1024) :
    cat a b c d e f g h (ix3 n s (⟨3072 + j.val, by omega⟩ : Fin 6144)) = f (ix3 n s j) := by
  pointwise [cat]
  rw [dif_neg (by omega)]
  rw [dif_neg (by omega)]
  rw [dif_neg (by omega)]
  rw [dif_neg (by omega)]
  rw [dif_neg (by omega)]
  rw [dif_pos (by omega)]
  exact congrArg (fun q => f (ix3 n s q)) (Fin.ext (by dsimp only; omega))

theorem cat_g (n : Fin 2) (s : Fin 8192) (j : Fin 1024) :
    cat a b c d e f g h (ix3 n s (⟨4096 + j.val, by omega⟩ : Fin 6144)) = g (ix3 n s j) := by
  pointwise [cat]
  rw [dif_neg (by omega)]
  rw [dif_neg (by omega)]
  rw [dif_neg (by omega)]
  rw [dif_neg (by omega)]
  rw [dif_neg (by omega)]
  rw [dif_neg (by omega)]
  rw [dif_pos (by omega)]
  exact congrArg (fun q => g (ix3 n s q)) (Fin.ext (by dsimp only; omega))

theorem cat_h (n : Fin 2) (s : Fin 8192) (j : Fin 1024) :
    cat a b c d e f g h (ix3 n s (⟨5120 + j.val, by omega⟩ : Fin 6144)) = h (ix3 n s j) := by
  pointwise [cat]
  rw [dif_neg (by omega)]
  rw [dif_neg (by omega)]
  rw [dif_neg (by omega)]
  rw [dif_neg (by omega)]
  rw [dif_neg (by omega)]
  rw [dif_neg (by omega)]
  rw [dif_neg (by omega)]
  exact congrArg (fun q => h (ix3 n s q)) (Fin.ext (by dsimp only; omega))

end Cat

end Cert.ProjReferenceIdeal.ProjRef

end
-- ==== Proof.ProjRef.lean ====
module

public import proofs.«01_k».proof.Proof.ProjMoba
public import proofs.«01_k».proof.Proof.ProjRet
public import proofs.«01_k».proof.Proof.ProjCat
public import proofs.«01_k».proof.Proof.Gen.ProjReferenceIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjReferenceIdeal.ProjRef

open Cert.ProjReferenceIdeal Cert.ProjReferenceIdeal.Gen Cert.ProjReferenceIdeal.Value Idealize.ShloMosaic.StableHlo

variable (V0 : Valuation τ sig (Elt Ideal))

/-- The reference's projections, angles, and rotated heads, as arrays. -/
abbrev z : FVec Ideal S2x8192x6656 .f32 := res_main_v0 V0
abbrev r163 : FVec Ideal S2x8192x6144 .f32 := res_main_v163 V0
abbrev r27 : FVec Ideal S8192x32 .f32 := res_main_v27 V0
abbrev r63 : FVec Ideal S8192x32 .f32 := res_main_v63 V0
abbrev r94 : FVec Ideal S8192x64 .f32 := res_main_v94 V0
abbrev r128 : FVec Ideal S8192x64 .f32 := res_main_v128 V0
abbrev r28 : FVec Ideal S8192x32 .f32 := res_main_v28 V0
abbrev r29 : FVec Ideal S8192x32 .f32 := res_main_v29 V0
abbrev r64 : FVec Ideal S8192x32 .f32 := res_main_v64 V0
abbrev r65 : FVec Ideal S8192x32 .f32 := res_main_v65 V0
abbrev r95 : FVec Ideal S8192x64 .f32 := res_main_v95 V0
abbrev r96 : FVec Ideal S8192x64 .f32 := res_main_v96 V0
abbrev r129 : FVec Ideal S8192x64 .f32 := res_main_v129 V0
abbrev r130 : FVec Ideal S8192x64 .f32 := res_main_v130 V0
abbrev r30 : FVec Ideal S2x8x8192x32 .f32 := res_main_v30 V0
abbrev r31 : FVec Ideal S2x8x8192x32 .f32 := res_main_v31 V0
abbrev r66 : FVec Ideal S2x8x8192x32 .f32 := res_main_v66 V0
abbrev r67 : FVec Ideal S2x8x8192x32 .f32 := res_main_v67 V0
abbrev r97 : FVec Ideal S2x4x8192x64 .f32 := res_main_v97 V0
abbrev r98 : FVec Ideal S2x4x8192x64 .f32 := res_main_v98 V0
abbrev r131 : FVec Ideal S2x4x8192x64 .f32 := res_main_v131 V0
abbrev r132 : FVec Ideal S2x4x8192x64 .f32 := res_main_v132 V0

theorem parts : r163 V0 = cat (moba (r30 V0) (r31 V0) (r28 V0) (r29 V0)) (moba (r66 V0) (r67 V0) (r64 V0) (r65 V0))
    (ret (r97 V0) (r98 V0) (r95 V0) (r96 V0)) (ret (r131 V0) (r132 V0) (r129 V0) (r130 V0))
    (extractStridedSlice S2x8192x1024 ![0, 0, 2560] (z V0) slices_S2x8192x6656_S2x8192x1024_0_0_2560)
    (extractStridedSlice S2x8192x1024 ![0, 0, 3584] (z V0) slices_S2x8192x6656_S2x8192x1024_0_0_3584)
    (extractStridedSlice S2x8192x1024 ![0, 0, 4608] (z V0) slices_S2x8192x6656_S2x8192x1024_0_0_4608)
    (extractStridedSlice S2x8192x1024 ![0, 0, 5632] (z V0) slices_S2x8192x6656_S2x8192x1024_0_0_5632) := rfl

theorem same_moba : r63 V0 = r27 V0 := rfl
theorem same_ret : r128 V0 = r94 V0 := rfl

theorem at30 (b : Fin 2) (h : Fin 8) (s : Fin 8192) (l : Fin 32) :
    r30 V0 (ix4 b h s l) = z V0 (ix3 b s (⟨h.val * 64 + l.val, by omega⟩ : Fin 6656)) := by
  pointwise [res_main_v30, res_main_v12]

theorem at31 (b : Fin 2) (h : Fin 8) (s : Fin 8192) (l : Fin 32) :
    r31 V0 (ix4 b h s l) = z V0 (ix3 b s (⟨h.val * 64 + (32 + l.val), by omega⟩ : Fin 6656)) := by
  pointwise [res_main_v31, res_main_v12]

theorem at66 (b : Fin 2) (h : Fin 8) (s : Fin 8192) (l : Fin 32) :
    r66 V0 (ix4 b h s l) = z V0 (ix3 b s (⟨512 + (h.val * 64 + l.val), by omega⟩ : Fin 6656)) := by
  pointwise [res_main_v66, res_main_v48]

theorem at67 (b : Fin 2) (h : Fin 8) (s : Fin 8192) (l : Fin 32) :
    r67 V0 (ix4 b h s l) = z V0 (ix3 b s (⟨512 + (h.val * 64 + (32 + l.val)), by omega⟩ : Fin 6656)) := by
  pointwise [res_main_v67, res_main_v48]

theorem at97 (b : Fin 2) (h : Fin 4) (s : Fin 8192) (i : Fin 64) :
    r97 V0 (ix4 b h s i) = z V0 (ix3 b s (⟨1536 + (h.val * 128 + 2 * i.val), by omega⟩ : Fin 6656)) := by
  pointwise [res_main_v97, res_main_v84]

theorem at98 (b : Fin 2) (h : Fin 4) (s : Fin 8192) (i : Fin 64) :
    r98 V0 (ix4 b h s i) = z V0 (ix3 b s (⟨1536 + (h.val * 128 + (1 + 2 * i.val)), by omega⟩ : Fin 6656)) := by
  pointwise [res_main_v98, res_main_v84]

theorem at131 (b : Fin 2) (h : Fin 4) (s : Fin 8192) (i : Fin 64) :
    r131 V0 (ix4 b h s i) = z V0 (ix3 b s (⟨2048 + (h.val * 128 + 2 * i.val), by omega⟩ : Fin 6656)) := by
  pointwise [res_main_v131, res_main_v118]

theorem at132 (b : Fin 2) (h : Fin 4) (s : Fin 8192) (i : Fin 64) :
    r132 V0 (ix4 b h s i) = z V0 (ix3 b s (⟨2048 + (h.val * 128 + (1 + 2 * i.val)), by omega⟩ : Fin 6656)) := by
  pointwise [res_main_v132, res_main_v118]

end Cert.ProjReferenceIdeal.ProjRef

end
-- ==== Proof.ProjRefOut.lean ====
module

public import proofs.«01_k».proof.Proof.ProjRef
public import proofs.«01_k».proof.Proof.ProjMoba
public import proofs.«01_k».proof.Proof.ProjRet
public import proofs.«01_k».proof.Proof.ProjCat
public import proofs.«01_k».proof.Proof.Gen.ProjReferenceIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjReferenceIdeal.ProjRef

open Cert.ProjReferenceIdeal Cert.ProjReferenceIdeal.Gen Cert.ProjReferenceIdeal.Value Idealize.ShloMosaic.StableHlo

/-- An entry of the projections: a row of the activations times a column of the weight. -/
def zf (x : FVec Ideal S2x8192x1024 .f32) (w : FVec Ideal S1024x6656 .f32) (b : Fin 2) (s : Fin 8192) (o : Fin 6656) : EReal :=
  ∑ k : Fin 1024, x (ix3 b s k) * w (ix2 k o)

variable (V0 : Valuation τ sig (Elt Ideal))

abbrev X : FVec Ideal S2x8192x1024 .f32 := V0 (Proc.devRef .tc main_arg0)
abbrev W : FVec Ideal S1024x6656 .f32 := V0 (Proc.devRef .tc main_arg1)

theorem z_at (b : Fin 2) (s : Fin 8192) (o : Fin 6656) : z V0 (ix3 b s o) = zf (X V0) (W V0) b s o := by
  pointwise [res_main_v0]
  rfl

theorem same_cos : r64 V0 = r28 V0 := rfl
theorem same_sin : r65 V0 = r29 V0 := rfl
theorem same_cosr : r129 V0 = r95 V0 := rfl
theorem same_sinr : r130 V0 = r96 V0 := rfl

/-- A column of the attention part before its rotation. -/
abbrev mo (b : Fin 2) (s : Fin 8192) (n : Fin 2) (h : Fin 8) (a : Fin 2) (l : Fin 32) : EReal :=
  zf (X V0) (W V0) b s (⟨n.val * 512 + (h.val * 64 + (a.val * 32 + l.val)), by omega⟩ : Fin 6656)

/-- A column of the retention part before its rotation. -/
abbrev re (b : Fin 2) (s : Fin 8192) (n : Fin 2) (h : Fin 4) (p : Fin 2) (i : Fin 64) : EReal :=
  zf (X V0) (W V0) b s (⟨1536 + (n.val * 512 + (h.val * 128 + (p.val + 2 * i.val))), by omega⟩ : Fin 6656)

theorem mo_00 (b : Fin 2) (h : Fin 8) (s : Fin 8192) (l : Fin 32) : r30 V0 (ix4 b h s l) = mo V0 b s 0 h 0 l :=
  ((at30 V0 b h s l).trans (congrArg (fun q => z V0 (ix3 b s q)) (Fin.ext (by
    show _ = (0 : Nat) * 512 + (h.val * 64 + ((0 : Nat) * 32 + l.val))
    first | omega | (dsimp only <;> omega))))).trans (z_at V0 b s _)

theorem mo_01 (b : Fin 2) (h : Fin 8) (s : Fin 8192) (l : Fin 32) : r31 V0 (ix4 b h s l) = mo V0 b s 0 h 1 l :=
  ((at31 V0 b h s l).trans (congrArg (fun q => z V0 (ix3 b s q)) (Fin.ext (by
    show _ = (0 : Nat) * 512 + (h.val * 64 + ((1 : Nat) * 32 + l.val))
    first | omega | (dsimp only <;> omega))))).trans (z_at V0 b s _)

theorem mo_10 (b : Fin 2) (h : Fin 8) (s : Fin 8192) (l : Fin 32) : r66 V0 (ix4 b h s l) = mo V0 b s 1 h 0 l :=
  ((at66 V0 b h s l).trans (congrArg (fun q => z V0 (ix3 b s q)) (Fin.ext (by
    show _ = (1 : Nat) * 512 + (h.val * 64 + ((0 : Nat) * 32 + l.val))
    first | omega | (dsimp only <;> omega))))).trans (z_at V0 b s _)

theorem mo_11 (b : Fin 2) (h : Fin 8) (s : Fin 8192) (l : Fin 32) : r67 V0 (ix4 b h s l) = mo V0 b s 1 h 1 l :=
  ((at67 V0 b h s l).trans (congrArg (fun q => z V0 (ix3 b s q)) (Fin.ext (by
    show _ = (1 : Nat) * 512 + (h.val * 64 + ((1 : Nat) * 32 + l.val))
    first | omega | (dsimp only <;> omega))))).trans (z_at V0 b s _)

theorem re_00 (b : Fin 2) (h : Fin 4) (s : Fin 8192) (i : Fin 64) : r97 V0 (ix4 b h s i) = re V0 b s 0 h 0 i :=
  ((at97 V0 b h s i).trans (congrArg (fun q => z V0 (ix3 b s q)) (Fin.ext (by
    show _ = 1536 + ((0 : Nat) * 512 + (h.val * 128 + ((0 : Nat) + 2 * i.val)))
    first | omega | (dsimp only <;> omega))))).trans (z_at V0 b s _)

theorem re_01 (b : Fin 2) (h : Fin 4) (s : Fin 8192) (i : Fin 64) : r98 V0 (ix4 b h s i) = re V0 b s 0 h 1 i :=
  ((at98 V0 b h s i).trans (congrArg (fun q => z V0 (ix3 b s q)) (Fin.ext (by
    show _ = 1536 + ((0 : Nat) * 512 + (h.val * 128 + ((1 : Nat) + 2 * i.val)))
    first | omega | (dsimp only <;> omega))))).trans (z_at V0 b s _)

theorem re_10 (b : Fin 2) (h : Fin 4) (s : Fin 8192) (i : Fin 64) : r131 V0 (ix4 b h s i) = re V0 b s 1 h 0 i :=
  ((at131 V0 b h s i).trans (congrArg (fun q => z V0 (ix3 b s q)) (Fin.ext (by
    show _ = 1536 + ((1 : Nat) * 512 + (h.val * 128 + ((0 : Nat) + 2 * i.val)))
    first | omega | (dsimp only <;> omega))))).trans (z_at V0 b s _)

theorem re_11 (b : Fin 2) (h : Fin 4) (s : Fin 8192) (i : Fin 64) : r132 V0 (ix4 b h s i) = re V0 b s 1 h 1 i :=
  ((at132 V0 b h s i).trans (congrArg (fun q => z V0 (ix3 b s q)) (Fin.ext (by
    show _ = 1536 + ((1 : Nat) * 512 + (h.val * 128 + ((1 : Nat) + 2 * i.val)))
    first | omega | (dsimp only <;> omega))))).trans (z_at V0 b s _)

theorem out_moba_first (n : Fin 2) (b : Fin 2) (s : Fin 8192) (g : Fin 4) (f : Fin 2) (l : Fin 32) :
    r163 V0 (ix3 b s (⟨n.val * 512 + (g.val * 128 + 0 * 64 + f.val * 32 + l.val), by omega⟩ : Fin 6144)) = mo V0 b s n (⟨g.val * 2 + f.val, by omega⟩ : Fin 8) 0 l * r28 V0 (ix2 s l) - mo V0 b s n (⟨g.val * 2 + f.val, by omega⟩ : Fin 8) 1 l * r29 V0 (ix2 s l) := by
  rw [parts]
  match n with
  | ⟨0, _⟩ =>
    refine ((congrArg (fun q => cat _ _ _ _ _ _ _ _ (ix3 b s q)) (Fin.ext (by first | omega | (dsimp only <;> omega)))).trans
      (cat_a _ _ _ _ _ _ _ _ b s (⟨g.val * 128 + 0 * 64 + f.val * 32 + l.val, by omega⟩ : Fin 512))).trans ((moba_first _ _ _ _ b s g f l).trans ?_)
    exact congrArg₂ (fun p q : EReal => p - q) (congrArg (fun p : EReal => p * r28 V0 (ix2 s l)) (mo_00 V0 b _ s l))
      (congrArg (fun p : EReal => p * r29 V0 (ix2 s l)) (mo_01 V0 b _ s l))
  | ⟨1, _⟩ =>
    refine ((congrArg (fun q => cat _ _ _ _ _ _ _ _ (ix3 b s q)) (Fin.ext (by first | omega | (dsimp only <;> omega)))).trans
      (cat_b _ _ _ _ _ _ _ _ b s (⟨g.val * 128 + 0 * 64 + f.val * 32 + l.val, by omega⟩ : Fin 512))).trans ((moba_first _ _ _ _ b s g f l).trans ?_)
    exact congrArg₂ (fun p q : EReal => p - q) (congrArg (fun p : EReal => p * r28 V0 (ix2 s l)) (mo_10 V0 b _ s l))
      (congrArg (fun p : EReal => p * r29 V0 (ix2 s l)) (mo_11 V0 b _ s l))

theorem out_moba_second (n : Fin 2) (b : Fin 2) (s : Fin 8192) (g : Fin 4) (f : Fin 2) (l : Fin 32) :
    r163 V0 (ix3 b s (⟨n.val * 512 + (g.val * 128 + 1 * 64 + f.val * 32 + l.val), by omega⟩ : Fin 6144)) = mo V0 b s n (⟨g.val * 2 + f.val, by omega⟩ : Fin 8) 1 l * r28 V0 (ix2 s l) + mo V0 b s n (⟨g.val * 2 + f.val, by omega⟩ : Fin 8) 0 l * r29 V0 (ix2 s l) := by
  rw [parts]
  match n with
  | ⟨0, _⟩ =>
    refine ((congrArg (fun q => cat _ _ _ _ _ _ _ _ (ix3 b s q)) (Fin.ext (by first | omega | (dsimp only <;> omega)))).trans
      (cat_a _ _ _ _ _ _ _ _ b s (⟨g.val * 128 + 1 * 64 + f.val * 32 + l.val, by omega⟩ : Fin 512))).trans ((moba_second _ _ _ _ b s g f l).trans ?_)
    exact congrArg₂ (fun p q : EReal => p + q) (congrArg (fun p : EReal => p * r28 V0 (ix2 s l)) (mo_01 V0 b _ s l))
      (congrArg (fun p : EReal => p * r29 V0 (ix2 s l)) (mo_00 V0 b _ s l))
  | ⟨1, _⟩ =>
    refine ((congrArg (fun q => cat _ _ _ _ _ _ _ _ (ix3 b s q)) (Fin.ext (by first | omega | (dsimp only <;> omega)))).trans
      (cat_b _ _ _ _ _ _ _ _ b s (⟨g.val * 128 + 1 * 64 + f.val * 32 + l.val, by omega⟩ : Fin 512))).trans ((moba_second _ _ _ _ b s g f l).trans ?_)
    exact congrArg₂ (fun p q : EReal => p + q) (congrArg (fun p : EReal => p * r28 V0 (ix2 s l)) (mo_11 V0 b _ s l))
      (congrArg (fun p : EReal => p * r29 V0 (ix2 s l)) (mo_10 V0 b _ s l))

theorem out_ret_first (n : Fin 2) (b : Fin 2) (s : Fin 8192) (h : Fin 4) (i : Fin 64) :
    r163 V0 (ix3 b s (⟨1024 + (n.val * 512 + (h.val * 128 + i.val)), by omega⟩ : Fin 6144)) = re V0 b s n h 0 i * r95 V0 (ix2 s i) - re V0 b s n h 1 i * r96 V0 (ix2 s i) := by
  rw [parts]
  match n with
  | ⟨0, _⟩ =>
    refine ((congrArg (fun q => cat _ _ _ _ _ _ _ _ (ix3 b s q)) (Fin.ext (by first | omega | (dsimp only <;> omega)))).trans
      (cat_c _ _ _ _ _ _ _ _ b s (⟨h.val * 128 + i.val, by omega⟩ : Fin 512))).trans ((ret_first _ _ _ _ b s h i).trans ?_)
    exact congrArg₂ (fun p q : EReal => p - q) (congrArg (fun p : EReal => p * r95 V0 (ix2 s i)) (re_00 V0 b h s i))
      (congrArg (fun p : EReal => p * r96 V0 (ix2 s i)) (re_01 V0 b h s i))
  | ⟨1, _⟩ =>
    refine ((congrArg (fun q => cat _ _ _ _ _ _ _ _ (ix3 b s q)) (Fin.ext (by first | omega | (dsimp only <;> omega)))).trans
      (cat_d _ _ _ _ _ _ _ _ b s (⟨h.val * 128 + i.val, by omega⟩ : Fin 512))).trans ((ret_first _ _ _ _ b s h i).trans ?_)
    exact congrArg₂ (fun p q : EReal => p - q) (congrArg (fun p : EReal => p * r95 V0 (ix2 s i)) (re_10 V0 b h s i))
      (congrArg (fun p : EReal => p * r96 V0 (ix2 s i)) (re_11 V0 b h s i))

theorem out_ret_second (n : Fin 2) (b : Fin 2) (s : Fin 8192) (h : Fin 4) (i : Fin 64) :
    r163 V0 (ix3 b s (⟨1024 + (n.val * 512 + (h.val * 128 + 64 + i.val)), by omega⟩ : Fin 6144)) = re V0 b s n h 1 i * r95 V0 (ix2 s i) + re V0 b s n h 0 i * r96 V0 (ix2 s i) := by
  rw [parts]
  match n with
  | ⟨0, _⟩ =>
    refine ((congrArg (fun q => cat _ _ _ _ _ _ _ _ (ix3 b s q)) (Fin.ext (by first | omega | (dsimp only <;> omega)))).trans
      (cat_c _ _ _ _ _ _ _ _ b s (⟨h.val * 128 + 64 + i.val, by omega⟩ : Fin 512))).trans ((ret_second _ _ _ _ b s h i).trans ?_)
    exact congrArg₂ (fun p q : EReal => p + q) (congrArg (fun p : EReal => p * r95 V0 (ix2 s i)) (re_01 V0 b h s i))
      (congrArg (fun p : EReal => p * r96 V0 (ix2 s i)) (re_00 V0 b h s i))
  | ⟨1, _⟩ =>
    refine ((congrArg (fun q => cat _ _ _ _ _ _ _ _ (ix3 b s q)) (Fin.ext (by first | omega | (dsimp only <;> omega)))).trans
      (cat_d _ _ _ _ _ _ _ _ b s (⟨h.val * 128 + 64 + i.val, by omega⟩ : Fin 512))).trans ((ret_second _ _ _ _ b s h i).trans ?_)
    exact congrArg₂ (fun p q : EReal => p + q) (congrArg (fun p : EReal => p * r95 V0 (ix2 s i)) (re_11 V0 b h s i))
      (congrArg (fun p : EReal => p * r96 V0 (ix2 s i)) (re_10 V0 b h s i))

theorem out_rest (b : Fin 2) (s : Fin 8192) (q : Fin 4) (j : Fin 1024) :
    r163 V0 (ix3 b s (⟨2048 + (q.val * 1024 + j.val), by omega⟩ : Fin 6144))
      = zf (X V0) (W V0) b s (⟨2560 + (q.val * 1024 + j.val), by omega⟩ : Fin 6656) := by
  rw [parts]
  match q with
  | ⟨0, _⟩ =>
    refine ((congrArg (fun q => cat _ _ _ _ _ _ _ _ (ix3 b s q)) (Fin.ext (by first | omega | (dsimp only <;> omega)))).trans
      (cat_e _ _ _ _ _ _ _ _ b s j)).trans ?_
    refine Eq.trans ?_ (z_at V0 b s _)
    refine Eq.trans (b := z V0 (ix3 b s (⟨2560 + j.val, by omega⟩ : Fin 6656))) (by pointwise []) ?_
    exact congrArg (fun q => z V0 (ix3 b s q)) (Fin.ext (by first | omega | (dsimp only <;> omega)))
  | ⟨1, _⟩ =>
    refine ((congrArg (fun q => cat _ _ _ _ _ _ _ _ (ix3 b s q)) (Fin.ext (by first | omega | (dsimp only <;> omega)))).trans
      (cat_f _ _ _ _ _ _ _ _ b s j)).trans ?_
    refine Eq.trans ?_ (z_at V0 b s _)
    refine Eq.trans (b := z V0 (ix3 b s (⟨3584 + j.val, by omega⟩ : Fin 6656))) (by pointwise []) ?_
    exact congrArg (fun q => z V0 (ix3 b s q)) (Fin.ext (by first | omega | (dsimp only <;> omega)))
  | ⟨2, _⟩ =>
    refine ((congrArg (fun q => cat _ _ _ _ _ _ _ _ (ix3 b s q)) (Fin.ext (by first | omega | (dsimp only <;> omega)))).trans
      (cat_g _ _ _ _ _ _ _ _ b s j)).trans ?_
    refine Eq.trans ?_ (z_at V0 b s _)
    refine Eq.trans (b := z V0 (ix3 b s (⟨4608 + j.val, by omega⟩ : Fin 6656))) (by pointwise []) ?_
    exact congrArg (fun q => z V0 (ix3 b s q)) (Fin.ext (by first | omega | (dsimp only <;> omega)))
  | ⟨3, _⟩ =>
    refine ((congrArg (fun q => cat _ _ _ _ _ _ _ _ (ix3 b s q)) (Fin.ext (by first | omega | (dsimp only <;> omega)))).trans
      (cat_h _ _ _ _ _ _ _ _ b s j)).trans ?_
    refine Eq.trans ?_ (z_at V0 b s _)
    refine Eq.trans (b := z V0 (ix3 b s (⟨5632 + j.val, by omega⟩ : Fin 6656))) (by pointwise []) ?_
    exact congrArg (fun q => z V0 (ix3 b s q)) (Fin.ext (by first | omega | (dsimp only <;> omega)))

end Cert.ProjReferenceIdeal.ProjRef

end
-- ==== Proof.ProjIn.lean ====
module

public import proofs.«01_k».proof.Proof.Gen.ProjIdeal.Value
public import proofs.«01_k».proof.Proof.ProjWeights
public import proofs.«01_k».proof.Proof.ProjRefOut
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.ProjIn

open Cert.ProjIdeal Cert.ProjIdeal.Gen Cert.ProjIdeal.ProjWeights
open Cert.ProjReferenceIdeal.ProjRef (zf r28 r29 r95 r96)

variable (m : (ℓ : Loc nD τ sig) → Buf (Elt Ideal) ℓ) (c : Dev nD)

/-- The two operands, as arrays. -/
abbrev X : FVec Ideal S2x8192x1024 .f32 := m ((c.tc : Thread nD τ).loc main_arg0)
abbrev W : FVec Ideal S1024x6656 .f32 := m ((c.tc : Thread nD τ).loc main_arg1)

theorem weight : (V m c main_v64 : FVec Ideal S1024x6144 .bf16) = truncf .bf16 (wcols (W m c)) bitsLt_bf16_f32 := by
  sl_kernel_rfl

theorem rows : (V m c main_v45 : FVec Ideal S16384x1024 .bf16)
    = truncf .bf16 (shapeCast S16384x1024 (X m c) shapeCasts_S2x8192x1024_S16384x1024) bitsLt_bf16_f32 := by
  sl_kernel_rfl

/-- The tables of the rotation, from the cosines and the sines of the angles. -/
def cosM (cs : FVec Ideal S8192x32 .f32) : FVec Ideal S8192x128 .f32 :=
  shapeCast S8192x128 (broadcastInDim S1x8192x4x32 ![0, 1, 2, 3] bcast_S1x8192x1x32_S1x8192x4x32_0_1_2_3
    (shapeCast S1x8192x1x32 cs shapeCasts_S8192x32_S1x8192x1x32)) shapeCasts_S1x8192x4x32_S8192x128
def two (sn : FVec Ideal S8192x32 .f32) : FVec Ideal S8192x64 .f32 :=
  shapeCast S8192x64 (broadcastInDim S1x8192x2x32 ![0, 1, 2, 3] bcast_S1x8192x1x32_S1x8192x2x32_0_1_2_3
    (shapeCast S1x8192x1x32 sn shapeCasts_S8192x32_S1x8192x1x32)) shapeCasts_S1x8192x2x32_S8192x64
def both (a b : FVec Ideal S8192x64 .f32) : FVec Ideal S8192x128 .f32 :=
  concatenate S8192x128 1 [⟨S8192x64, a⟩, ⟨S8192x64, b⟩] concatenates_S8192x64_S8192x64_S8192x128_d1

theorem cosM_at (cs : FVec Ideal S8192x32 .f32) (s : Fin 8192) (a f : Fin 2) (l : Fin 32) :
    cosM cs (ix2 s (⟨a.val * 64 + f.val * 32 + l.val, by omega⟩ : Fin 128)) = cs (ix2 s l) := by
  pointwise [cosM]

theorem two_at (sn : FVec Ideal S8192x32 .f32) (s : Fin 8192) (f : Fin 2) (l : Fin 32) :
    two sn (ix2 s (⟨f.val * 32 + l.val, by omega⟩ : Fin 64)) = sn (ix2 s l) := by
  pointwise [two]

theorem both_first (a b : FVec Ideal S8192x64 .f32) (s : Fin 8192) (i : Fin 64) :
    both a b (ix2 s (⟨i.val, by omega⟩ : Fin 128)) = a (ix2 s i) := by
  pointwise [both]

theorem both_second (a b : FVec Ideal S8192x64 .f32) (s : Fin 8192) (i : Fin 64) :
    both a b (ix2 s (⟨64 + i.val, by omega⟩ : Fin 128)) = b (ix2 s i) := by
  pointwise [both]

section
variable (V0 : Valuation Cert.ProjReferenceIdeal.τ Cert.ProjReferenceIdeal.sig (Elt Ideal))

theorem cos_m : (V m c main_v20 : FVec Ideal S8192x128 .f32) = cosM (r28 V0) := by sl_kernel_rfl
theorem sin_m : (V m c main_v28 : FVec Ideal S8192x128 .f32) = both (two (Host.negf (r29 V0))) (two (r29 V0)) := by sl_kernel_rfl
theorem cos_r : (V m c main_v41 : FVec Ideal S8192x128 .f32) = both (r95 V0) (r95 V0) := by sl_kernel_rfl
theorem sin_r : (V m c main_v43 : FVec Ideal S8192x128 .f32) = both (Host.negf (r96 V0)) (r96 V0) := by sl_kernel_rfl
end

/-- The block every window holds at step `t`. -/
theorem idx : ∀ t : Fin grid0.N, win0_0.index t = ![t.val / 6, 0] ∧ win0_1.index t = ![0, t.val % 6]
    ∧ win0_2.index t = ![t.val / 6 % 8, 0] ∧ win0_3.index t = ![t.val / 6 % 8, 0] ∧ win0_4.index t = ![t.val / 6 % 8, 0]
    ∧ win0_5.index t = ![t.val / 6 % 8, 0] ∧ win0_6.index t = ![t.val / 6, t.val % 6] := by
  decide +kernel

section
variable (t : Fin grid0.N) (b : Fin 2) (s : Fin 8192) (r : Fin 1024) (ht : t.val / 6 * 1024 + r.val = b.val * 8192 + s.val)
include ht

theorem x_blk (k : Fin 1024) : (iblk m c 0 t : FVec Ideal S1024x1024 .bf16) (ix2 r k) = X m c (ix3 b s k) := by
  have q : (iblk m c 0 t : FVec Ideal S1024x1024 .bf16) (ix2 r k)
      = (V m c main_v45 : FVec Ideal S16384x1024 .bf16) (ix2 (⟨b.val * 8192 + s.val, by omega⟩ : Fin 16384) k) := by
    blk_ext [iblk, idx t]
  rw [q, rows]
  pointwise []

theorem tab2 (j : Fin 128) : (iblk m c 2 t : FVec Ideal S1024x128 .f32) (ix2 r j) = (V m c main_v20 : FVec Ideal S8192x128 .f32) (ix2 s j) := by
  blk_ext [iblk, idx t]

theorem tab3 (j : Fin 128) : (iblk m c 3 t : FVec Ideal S1024x128 .f32) (ix2 r j) = (V m c main_v28 : FVec Ideal S8192x128 .f32) (ix2 s j) := by
  blk_ext [iblk, idx t]

theorem tab4 (j : Fin 128) : (iblk m c 4 t : FVec Ideal S1024x128 .f32) (ix2 r j) = (V m c main_v41 : FVec Ideal S8192x128 .f32) (ix2 s j) := by
  blk_ext [iblk, idx t]

theorem tab5 (j : Fin 128) : (iblk m c 5 t : FVec Ideal S1024x128 .f32) (ix2 r j) = (V m c main_v43 : FVec Ideal S8192x128 .f32) (ix2 s j) := by
  blk_ext [iblk, idx t]

end

theorem w_blk (t : Fin grid0.N) (k : Fin 1024) (j : Fin 1024) (o : Fin 6144) (ho : o.val = t.val % 6 * 1024 + j.val) :
    (iblk m c 1 t : FVec Ideal S1024x1024 .bf16) (ix2 k j) = wcols (W m c) (ix2 k o) := by
  have q : (iblk m c 1 t : FVec Ideal S1024x1024 .bf16) (ix2 k j) = (V m c main_v64 : FVec Ideal S1024x6144 .bf16) (ix2 k o) := by
    blk_ext [iblk, idx t]
  rw [q, weight]
  pointwise []

theorem mat_at (x w : FVec Ideal S1024x1024 .bf16) (r j : Fin 1024) :
    (k0_pay1 x w : FVec Ideal S1024x1024 .f32) (ix2 r j) = ∑ k : Fin 1024, x (ix2 r k) * w (ix2 k j) := by
  pointwise [k0_pay1]

end Cert.ProjIdeal.ProjIn

end
-- ==== Proof.ProjBodyA.lean ====
module

public import proofs.«01_k».proof.Proof.Gen.ProjIdeal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.ProjBodyA

open Cert.ProjIdeal Cert.ProjIdeal.Gen

/-- An entry of a rotated block: the entry times its cosine plus the entry half a head away times its sine. -/
abbrev rot (a : FVec Ideal S1024x1024 .f32) (cs sn : FVec Ideal S1024x128 .f32) (r j : Fin 1024) : EReal :=
  a (ix2 r j) * cs (ix2 r (⟨j.val % 128, by omega⟩ : Fin 128))
    + a (ix2 r (⟨j.val / 128 * 128 + (j.val % 128 + 64) % 128, by omega⟩ : Fin 1024)) * sn (ix2 r (⟨j.val % 128, by omega⟩ : Fin 128))

theorem block (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1024 .bf16) (harg8 : arg8.IsWhole) (hc0 : cond0_0 i) (hc1 : ¬cond0_1 i) (hc2 : ¬cond0_2 i)
    (x0 : Vec Ideal S1024x1024 .bf16) (x1 : Vec Ideal S1024x1024 .bf16) (x2 : Vec Ideal S1024x128 .f32) (x3 : Vec Ideal S1024x128 .f32) (x4 : Vec Ideal S1024x128 .f32) (x5 : Vec Ideal S1024x128 .f32) (r j : Fin 1024) :
    (out0_A_6 c i arg2 harg2 arg3 harg3 arg4 harg4 arg5 harg5 arg6 harg6 arg7 harg7 arg8 harg8 hc0 hc1 hc2 x0 x1 x2 x3 x4 x5 : FVec Ideal S1024x1024 .bf16) (ix2 r j)
      = rot (k0_pay1 x0 x1) x2 x3 r j := by
  frame_out
  canon_tiles u g using (View.cover_of_tiledL (s := S1024x1024) _ ![1024, 128] (by sl_kernel_rfl) _)
  all_goals
    clear hc0 hc1 hc2 harg2 harg3 harg4 harg5 harg6 harg7 harg8 arg2 arg3 arg4 arg5 arg6 arg7 arg8
    idx_vars u
    pointwise [k0_pay2, k0_pay3, k0_pay4, k0_pay9, k0_pay10, k0_pay11, k0_pay12, k0_pay13, k0_pay14, k0_pay15]
    refine congrArg₂ (fun p q : EReal => p + q)
      (congrArg₂ (fun p q : EReal => p * q) (congrArg (k0_pay1 x0 x1) (congrArg₂ ix2 (Fin.ext g0.symm) (Fin.ext ?_)))
        (congrArg x2 (congrArg₂ ix2 (Fin.ext g0.symm) (Fin.ext ?_))))
      (congrArg₂ (fun p q : EReal => p * q) (congrArg (k0_pay1 x0 x1) (congrArg₂ ix2 (Fin.ext g0.symm) (Fin.ext ?_)))
        (congrArg x3 (congrArg₂ ix2 (Fin.ext g0.symm) (Fin.ext ?_)))) <;> dsimp only <;> omega

end Cert.ProjIdeal.ProjBodyA

end
-- ==== Proof.ProjBodyB.lean ====
module

public import proofs.«01_k».proof.Proof.Gen.ProjIdeal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.ProjBodyB

open Cert.ProjIdeal Cert.ProjIdeal.Gen

/-- An entry of a rotated block: the entry times its cosine plus the entry half a head away times its sine. -/
abbrev rot (a : FVec Ideal S1024x1024 .f32) (cs sn : FVec Ideal S1024x128 .f32) (r j : Fin 1024) : EReal :=
  a (ix2 r j) * cs (ix2 r (⟨j.val % 128, by omega⟩ : Fin 128))
    + a (ix2 r (⟨j.val / 128 * 128 + (j.val % 128 + 64) % 128, by omega⟩ : Fin 1024)) * sn (ix2 r (⟨j.val % 128, by omega⟩ : Fin 128))

theorem block (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1024 .bf16) (harg8 : arg8.IsWhole) (hc0 : ¬cond0_0 i) (hc1 : cond0_1 i) (hc2 : ¬cond0_2 i)
    (x0 : Vec Ideal S1024x1024 .bf16) (x1 : Vec Ideal S1024x1024 .bf16) (x2 : Vec Ideal S1024x128 .f32) (x3 : Vec Ideal S1024x128 .f32) (x4 : Vec Ideal S1024x128 .f32) (x5 : Vec Ideal S1024x128 .f32) (r j : Fin 1024) :
    (out0_B_6 c i arg2 harg2 arg3 harg3 arg4 harg4 arg5 harg5 arg6 harg6 arg7 harg7 arg8 harg8 hc0 hc1 hc2 x0 x1 x2 x3 x4 x5 : FVec Ideal S1024x1024 .bf16) (ix2 r j)
      = rot (k0_pay1 x0 x1) x4 x5 r j := by
  frame_out
  canon_tiles u g using (View.cover_of_tiledL (s := S1024x1024) _ ![1024, 128] (by sl_kernel_rfl) _)
  all_goals
    clear hc0 hc1 hc2 harg2 harg3 harg4 harg5 harg6 harg7 harg8 arg2 arg3 arg4 arg5 arg6 arg7 arg8
    idx_vars u
    pointwise [k0_pay5, k0_pay6, k0_pay7, k0_pay16, k0_pay17, k0_pay18, k0_pay19, k0_pay20, k0_pay21, k0_pay22]
    refine congrArg₂ (fun p q : EReal => p + q)
      (congrArg₂ (fun p q : EReal => p * q) (congrArg (k0_pay1 x0 x1) (congrArg₂ ix2 (Fin.ext g0.symm) (Fin.ext ?_)))
        (congrArg x4 (congrArg₂ ix2 (Fin.ext g0.symm) (Fin.ext ?_))))
      (congrArg₂ (fun p q : EReal => p * q) (congrArg (k0_pay1 x0 x1) (congrArg₂ ix2 (Fin.ext g0.symm) (Fin.ext ?_)))
        (congrArg x5 (congrArg₂ ix2 (Fin.ext g0.symm) (Fin.ext ?_)))) <;> dsimp only <;> omega

end Cert.ProjIdeal.ProjBodyB

end
-- ==== Proof.ProjBodyC.lean ====
module

public import proofs.«01_k».proof.Proof.Gen.ProjIdeal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.ProjBodyC

open Cert.ProjIdeal Cert.ProjIdeal.Gen

theorem block (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1024 .bf16) (harg8 : arg8.IsWhole) (hc0 : ¬cond0_0 i) (hc1 : ¬cond0_1 i) (hc2 : cond0_2 i)
    (x0 : Vec Ideal S1024x1024 .bf16) (x1 : Vec Ideal S1024x1024 .bf16) (x2 : Vec Ideal S1024x128 .f32) (x3 : Vec Ideal S1024x128 .f32) (x4 : Vec Ideal S1024x128 .f32) (x5 : Vec Ideal S1024x128 .f32) (r j : Fin 1024) :
    (out0_C_6 c i arg2 harg2 arg3 harg3 arg4 harg4 arg5 harg5 arg6 harg6 arg7 harg7 arg8 harg8 hc0 hc1 hc2 x0 x1 x2 x3 x4 x5 : FVec Ideal S1024x1024 .bf16) (ix2 r j)
      = (k0_pay1 x0 x1 : FVec Ideal S1024x1024 .f32) (ix2 r j) := by
  frame_out
  pointwise [k0_pay8]

end Cert.ProjIdeal.ProjBodyC

end
-- ==== Proof.ProjEq.lean ====
module

public import proofs.«01_k».proof.Proof.Gen.ProjIdeal.Value
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.ProjIn
public import proofs.«01_k».proof.Proof.ProjBodyA
public import proofs.«01_k».proof.Proof.ProjBodyB
public import proofs.«01_k».proof.Proof.ProjBodyC

@[expose] public section

set_option maxRecDepth 16384

noncomputable section

open Idealize.ShloMosaic Idealize.ShloMosaic.TcCoe Idealize.SL.Sem
open Idealize.ShloMosaic.Pipeline (Dat)

/-! The projection call against its reference: every entry the kernel stores is the reference's entry at the same row and column. -/

namespace Cert.ProjIdeal.ProjEq

open Cert.ProjIdeal Cert.ProjIdeal.Gen Cert.ProjIdeal.ProjWeights Cert.ProjIdeal.ProjIn
open Cert.ProjReferenceIdeal.ProjRef (zf mo re r28 r29 r95 r96 r163 out_moba_first out_moba_second out_ret_first out_ret_second out_rest)

/-- The slices of the weight the retention columns are taken from. -/
theorem slice_q (w : FVec Ideal S1024x6656 .f32) (k : Fin 1024) (j : Fin 512) :
    (extractStridedSlice S1024x512 ![0, 1536] w slices_S1024x6656_S1024x512_0_1536 : FVec Ideal S1024x512 .f32) (ix2 k j)
      = w (ix2 k (⟨1536 + j.val, by omega⟩ : Fin 6656)) := by
  pointwise []

theorem slice_k (w : FVec Ideal S1024x6656 .f32) (k : Fin 1024) (j : Fin 512) :
    (extractStridedSlice S1024x512 ![0, 2048] w slices_S1024x6656_S1024x512_0_2048 : FVec Ideal S1024x512 .f32) (ix2 k j)
      = w (ix2 k (⟨2048 + j.val, by omega⟩ : Fin 6656)) := by
  pointwise []

theorem slice_r (w : FVec Ideal S1024x6656 .f32) (k : Fin 1024) (j : Fin 4096) :
    (extractStridedSlice S1024x4096 ![0, 2560] w slices_S1024x6656_S1024x4096_0_2560 : FVec Ideal S1024x4096 .f32) (ix2 k j)
      = w (ix2 k (⟨2560 + j.val, by omega⟩ : Fin 6656)) := by
  pointwise []

/-- Two leading indices merged, whatever the array. -/
theorem cast_at (x : FVec Ideal Cert.ProjReferenceIdeal.S2x8192x6144 .f32) (hc : Cert.ProjReferenceIdeal.S2x8192x6144.ShapeCasts S16384x6144) (b : Fin 2) (s : Fin 8192) (o : Fin 6144) :
    (truncf .bf16 (shapeCast S16384x6144 x hc) bitsLt_bf16_f32 : FVec Ideal S16384x6144 .bf16)
      (ix2 (⟨b.val * 8192 + s.val, by omega⟩ : Fin 16384) o) = x (ix3 b s o) := by
  pointwise []

/-- The stored weight column of a block attention column. -/
theorem col_moba (w : FVec Ideal S1024x6656 .f32) (k : Fin 1024) (n : Fin 2) (g : Fin 4) (a f : Fin 2) (l : Fin 32) :
    wcols w (ix2 k (⟨n.val * 512 + (g.val * 128 + a.val * 64 + f.val * 32 + l.val), by omega⟩ : Fin 6144))
      = w (ix2 k (⟨n.val * 512 + ((g.val * 2 + f.val) * 64 + (a.val * 32 + l.val)), by omega⟩ : Fin 6656)) := by
  refine (catW_a _ _ _ _ k (⟨n.val * 512 + (g.val * 128 + a.val * 64 + f.val * 32 + l.val), by omega⟩ : Fin 1024)).trans ?_
  refine (congrArg (fun q => mobaW w (ix2 k q)) (Fin.ext ?_)).trans
    ((mobaW_at w k (⟨n.val * 4 + g.val, by omega⟩ : Fin 8) a f l).trans (congrArg (fun q => w (ix2 k q)) (Fin.ext ?_)))
  · first | omega | (dsimp only <;> omega)
  · first | omega | (dsimp only <;> omega)

/-- The stored weight column of a retention column. -/
theorem col_ret (w : FVec Ideal S1024x6656 .f32) (k : Fin 1024) (n : Fin 2) (h : Fin 4) (p : Fin 2) (i : Fin 64) :
    wcols w (ix2 k (⟨1024 + (n.val * 512 + (h.val * 128 + (p.val * 64 + i.val))), by omega⟩ : Fin 6144))
      = w (ix2 k (⟨1536 + (n.val * 512 + (h.val * 128 + (p.val + 2 * i.val))), by omega⟩ : Fin 6656)) := by
  match n with
  | ⟨0, _⟩ =>
    refine ((congrArg (fun q => wcols w (ix2 k q)) (Fin.ext (by first | omega | (dsimp only <;> omega)))).trans
      (catW_b _ _ _ _ k (⟨h.val * 128 + (p.val * 64 + i.val), by omega⟩ : Fin 512))).trans ((retW_at _ k _).trans ?_)
    refine (slice_q w k _).trans (congrArg (fun q => w (ix2 k q)) (Fin.ext ?_))
    first | omega | (dsimp only <;> omega)
  | ⟨1, _⟩ =>
    refine ((congrArg (fun q => wcols w (ix2 k q)) (Fin.ext (by first | omega | (dsimp only <;> omega)))).trans
      (catW_c _ _ _ _ k (⟨h.val * 128 + (p.val * 64 + i.val), by omega⟩ : Fin 512))).trans ((retW_at _ k _).trans ?_)
    refine (slice_k w k _).trans (congrArg (fun q => w (ix2 k q)) (Fin.ext ?_))
    first | omega | (dsimp only <;> omega)

/-- The stored weight column of every other column. -/
theorem col_rest (w : FVec Ideal S1024x6656 .f32) (k : Fin 1024) (q : Fin 4) (j : Fin 1024) :
    wcols w (ix2 k (⟨2048 + (q.val * 1024 + j.val), by omega⟩ : Fin 6144))
      = w (ix2 k (⟨2560 + (q.val * 1024 + j.val), by omega⟩ : Fin 6656)) := by
  refine (catW_d _ _ _ _ k (⟨q.val * 1024 + j.val, by omega⟩ : Fin 4096)).trans ?_
  exact slice_r w k _

variable (m : (ℓ : Loc nD τ sig) → Buf (Elt Ideal) ℓ) (c : Dev nD)
variable (V0 : Valuation Cert.ProjReferenceIdeal.τ Cert.ProjReferenceIdeal.sig (Elt Ideal))

/-- A rotated entry from the four numbers it is made of. -/
theorem rotA (a : FVec Ideal S1024x1024 .f32) (cs sn : FVec Ideal S1024x128 .f32) (r j p : Fin 1024) (q : Fin 128)
    (hq : j.val % 128 = q.val) (hp : j.val / 128 * 128 + (j.val % 128 + 64) % 128 = p.val) {A P C S : EReal}
    (hA : a (ix2 r j) = A) (hP : a (ix2 r p) = P) (hC : cs (ix2 r q) = C) (hS : sn (ix2 r q) = S) :
    ProjBodyA.rot a cs sn r j = A * C + P * S := by
  obtain ⟨p, hp'⟩ := p
  obtain ⟨q, hq'⟩ := q
  dsimp only at hq hp
  subst hq
  subst hp
  rw [← hA, ← hP, ← hC, ← hS]

theorem rotB (a : FVec Ideal S1024x1024 .f32) (cs sn : FVec Ideal S1024x128 .f32) (r j p : Fin 1024) (q : Fin 128)
    (hq : j.val % 128 = q.val) (hp : j.val / 128 * 128 + (j.val % 128 + 64) % 128 = p.val) {A P C S : EReal}
    (hA : a (ix2 r j) = A) (hP : a (ix2 r p) = P) (hC : cs (ix2 r q) = C) (hS : sn (ix2 r q) = S) :
    ProjBodyB.rot a cs sn r j = A * C + P * S := by
  obtain ⟨p, hp'⟩ := p
  obtain ⟨q, hq'⟩ := q
  dsimp only at hq hp
  subst hq
  subst hp
  rw [← hA, ← hP, ← hC, ← hS]

theorem neg_term (a b p d : EReal) : a * b + p * (-d) = a * b - p * d := by
  rw [mul_neg, sub_eq_add_neg]

section
variable (hX : Cert.ProjReferenceIdeal.ProjRef.X V0 = ProjIn.X m c) (hW : Cert.ProjReferenceIdeal.ProjRef.W V0 = ProjIn.W m c)
variable (t : Fin grid0.N) (b : Fin 2) (s : Fin 8192) (r : Fin 1024) (ht : t.val / 6 * 1024 + r.val = b.val * 8192 + s.val)

theorem negf_at (x : FVec Ideal S8192x32 .f32) (s : Fin 8192) (l : Fin 32) : (Host.negf x : FVec Ideal S8192x32 .f32) (ix2 s l) = -(x (ix2 s l)) := by
  pointwise []

theorem negf_at' (x : FVec Ideal S8192x64 .f32) (s : Fin 8192) (l : Fin 64) : (Host.negf x : FVec Ideal S8192x64 .f32) (ix2 s l) = -(x (ix2 s l)) := by
  pointwise []

include hX hW ht

/-- The product of the step's two blocks. -/
theorem mat (j : Fin 1024) (o : Fin 6144) (ho : o.val = t.val % 6 * 1024 + j.val) (p : Fin 6656)
    (hp : ∀ k, wcols (ProjIn.W m c) (ix2 k o) = ProjIn.W m c (ix2 k p)) :
    (k0_pay1 (iblk m c 0 t) (iblk m c 1 t) : FVec Ideal S1024x1024 .f32) (ix2 r j)
      = zf (Cert.ProjReferenceIdeal.ProjRef.X V0) (Cert.ProjReferenceIdeal.ProjRef.W V0) b s p := by
  rw [hX, hW]
  exact (mat_at _ _ r j).trans (Finset.sum_congr rfl fun k _ =>
    congrArg₂ (· * ·) (x_blk m c t b s r ht k) ((w_blk m c t k j o ho).trans (hp k)))

/-- A product entry of a block attention column. -/
theorem mat_moba (h0 : t.val % 6 = 0) (n : Fin 2) (g : Fin 4) (a f : Fin 2) (l : Fin 32) (j : Fin 1024)
    (hj : j.val = n.val * 512 + (g.val * 128 + a.val * 64 + f.val * 32 + l.val)) :
    (k0_pay1 (iblk m c 0 t) (iblk m c 1 t) : FVec Ideal S1024x1024 .f32) (ix2 r j)
      = mo V0 b s n (⟨g.val * 2 + f.val, by omega⟩ : Fin 8) a l :=
  mat m c V0 hX hW t b s r ht j (⟨n.val * 512 + (g.val * 128 + a.val * 64 + f.val * 32 + l.val), by omega⟩ : Fin 6144)
    (by first | omega | (dsimp only <;> omega)) _ (fun k => col_moba _ k n g a f l)

/-- A product entry of a retention column. -/
theorem mat_ret (h1 : t.val % 6 = 1) (n : Fin 2) (h : Fin 4) (p : Fin 2) (i : Fin 64) (j : Fin 1024)
    (hj : j.val = n.val * 512 + (h.val * 128 + (p.val * 64 + i.val))) :
    (k0_pay1 (iblk m c 0 t) (iblk m c 1 t) : FVec Ideal S1024x1024 .f32) (ix2 r j) = re V0 b s n h p i :=
  mat m c V0 hX hW t b s r ht j (⟨1024 + (n.val * 512 + (h.val * 128 + (p.val * 64 + i.val))), by omega⟩ : Fin 6144)
    (by first | omega | (dsimp only <;> omega)) _ (fun k => col_ret _ k n h p i)

omit hX hW in
theorem cosA (a f : Fin 2) (l : Fin 32) :
    (iblk m c 2 t : FVec Ideal S1024x128 .f32) (ix2 r (⟨a.val * 64 + f.val * 32 + l.val, by omega⟩ : Fin 128)) = r28 V0 (ix2 s l) :=
  (tab2 m c t b s r ht _).trans ((congrFun (cos_m m c V0) _).trans (cosM_at _ s a f l))

omit hX hW in
theorem sinA_first (f : Fin 2) (l : Fin 32) :
    (iblk m c 3 t : FVec Ideal S1024x128 .f32) (ix2 r (⟨f.val * 32 + l.val, by omega⟩ : Fin 128)) = -(r29 V0 (ix2 s l)) :=
  (tab3 m c t b s r ht _).trans ((congrFun (sin_m m c V0) _).trans ((both_first _ _ s (⟨f.val * 32 + l.val, by omega⟩ : Fin 64)).trans
    ((two_at _ s f l).trans (negf_at _ s l))))

omit hX hW in
theorem sinA_second (f : Fin 2) (l : Fin 32) :
    (iblk m c 3 t : FVec Ideal S1024x128 .f32) (ix2 r (⟨64 + (f.val * 32 + l.val), by omega⟩ : Fin 128)) = r29 V0 (ix2 s l) :=
  (tab3 m c t b s r ht _).trans ((congrFun (sin_m m c V0) _).trans ((both_second _ _ s (⟨f.val * 32 + l.val, by omega⟩ : Fin 64)).trans
    (two_at _ s f l)))

omit hX hW in
theorem cosB_first (i : Fin 64) :
    (iblk m c 4 t : FVec Ideal S1024x128 .f32) (ix2 r (⟨i.val, by omega⟩ : Fin 128)) = r95 V0 (ix2 s i) :=
  (tab4 m c t b s r ht _).trans ((congrFun (cos_r m c V0) _).trans (both_first _ _ s i))

omit hX hW in
theorem cosB_second (i : Fin 64) :
    (iblk m c 4 t : FVec Ideal S1024x128 .f32) (ix2 r (⟨64 + i.val, by omega⟩ : Fin 128)) = r95 V0 (ix2 s i) :=
  (tab4 m c t b s r ht _).trans ((congrFun (cos_r m c V0) _).trans (both_second _ _ s i))

omit hX hW in
theorem sinB_first (i : Fin 64) :
    (iblk m c 5 t : FVec Ideal S1024x128 .f32) (ix2 r (⟨i.val, by omega⟩ : Fin 128)) = -(r96 V0 (ix2 s i)) :=
  (tab5 m c t b s r ht _).trans ((congrFun (sin_r m c V0) _).trans ((both_first _ _ s i).trans (negf_at' _ s i)))

omit hX hW in
theorem sinB_second (i : Fin 64) :
    (iblk m c 5 t : FVec Ideal S1024x128 .f32) (ix2 r (⟨64 + i.val, by omega⟩ : Fin 128)) = r96 V0 (ix2 s i) :=
  (tab5 m c t b s r ht _).trans ((congrFun (sin_r m c V0) _).trans (both_second _ _ s i))

/-- A rotated block attention entry. -/
theorem entryA (h0 : t.val % 6 = 0) (j : Fin 1024) :
    ProjBodyA.rot (k0_pay1 (iblk m c 0 t) (iblk m c 1 t)) (iblk m c 2 t) (iblk m c 3 t) r j
      = r163 V0 (ix3 b s (⟨j.val, by omega⟩ : Fin 6144)) := by
  obtain ⟨n, hn⟩ : ∃ n : Fin 2, n.val = j.val / 512 := ⟨⟨j.val / 512, by omega⟩, rfl⟩
  obtain ⟨g, hg⟩ : ∃ g : Fin 4, g.val = j.val % 512 / 128 := ⟨⟨j.val % 512 / 128, by omega⟩, rfl⟩
  obtain ⟨f, hf⟩ : ∃ f : Fin 2, f.val = j.val % 64 / 32 := ⟨⟨j.val % 64 / 32, by omega⟩, rfl⟩
  obtain ⟨l, hl⟩ : ∃ l : Fin 32, l.val = j.val % 32 := ⟨⟨j.val % 32, by omega⟩, rfl⟩
  by_cases ha : j.val % 128 < 64
  · refine (rotA _ _ _ r j (⟨j.val + 64, by omega⟩ : Fin 1024) (⟨f.val * 32 + l.val, by omega⟩ : Fin 128)
      (by first | omega | (dsimp only <;> omega)) (by first | omega | (dsimp only <;> omega))
      (mat_moba m c V0 hX hW t b s r ht h0 n g 0 f l j (by show _ = n.val * 512 + (g.val * 128 + 0 * 64 + f.val * 32 + l.val); omega))
      (mat_moba m c V0 hX hW t b s r ht h0 n g 1 f l _ (by show j.val + 64 = n.val * 512 + (g.val * 128 + 1 * 64 + f.val * 32 + l.val); omega))
      ((congrArg (fun q => (iblk m c 2 t : FVec Ideal S1024x128 .f32) (ix2 r q)) (Fin.ext (by
        show f.val * 32 + l.val = 0 * 64 + f.val * 32 + l.val; omega))).trans (cosA m c V0 t b s r ht 0 f l))
      (sinA_first m c V0 t b s r ht f l)).trans ?_
    refine (neg_term _ _ _ _).trans ((out_moba_first V0 n b s g f l).symm.trans ?_)
    exact congrArg (fun q => r163 V0 (ix3 b s q)) (Fin.ext (by first | omega | (dsimp only <;> omega)))
  · refine (rotA _ _ _ r j (⟨j.val - 64, by omega⟩ : Fin 1024) (⟨64 + (f.val * 32 + l.val), by omega⟩ : Fin 128)
      (by first | omega | (dsimp only <;> omega)) (by first | omega | (dsimp only <;> omega))
      (mat_moba m c V0 hX hW t b s r ht h0 n g 1 f l j (by show _ = n.val * 512 + (g.val * 128 + 1 * 64 + f.val * 32 + l.val); omega))
      (mat_moba m c V0 hX hW t b s r ht h0 n g 0 f l _ (by show j.val - 64 = n.val * 512 + (g.val * 128 + 0 * 64 + f.val * 32 + l.val); omega))
      ((congrArg (fun q => (iblk m c 2 t : FVec Ideal S1024x128 .f32) (ix2 r q)) (Fin.ext (by
        show 64 + (f.val * 32 + l.val) = 1 * 64 + f.val * 32 + l.val; omega))).trans (cosA m c V0 t b s r ht 1 f l))
      (sinA_second m c V0 t b s r ht f l)).trans ?_
    refine (out_moba_second V0 n b s g f l).symm.trans ?_
    exact congrArg (fun q => r163 V0 (ix3 b s q)) (Fin.ext (by first | omega | (dsimp only <;> omega)))

/-- A rotated retention entry. -/
theorem entryB (h1 : t.val % 6 = 1) (j : Fin 1024) :
    ProjBodyB.rot (k0_pay1 (iblk m c 0 t) (iblk m c 1 t)) (iblk m c 4 t) (iblk m c 5 t) r j
      = r163 V0 (ix3 b s (⟨1024 + j.val, by omega⟩ : Fin 6144)) := by
  obtain ⟨n, hn⟩ : ∃ n : Fin 2, n.val = j.val / 512 := ⟨⟨j.val / 512, by omega⟩, rfl⟩
  obtain ⟨h, hh⟩ : ∃ h : Fin 4, h.val = j.val % 512 / 128 := ⟨⟨j.val % 512 / 128, by omega⟩, rfl⟩
  obtain ⟨i, hi⟩ : ∃ i : Fin 64, i.val = j.val % 64 := ⟨⟨j.val % 64, by omega⟩, rfl⟩
  by_cases ha : j.val % 128 < 64
  · refine (rotB _ _ _ r j (⟨j.val + 64, by omega⟩ : Fin 1024) (⟨i.val, by omega⟩ : Fin 128)
      (by first | omega | (dsimp only <;> omega)) (by first | omega | (dsimp only <;> omega))
      (mat_ret m c V0 hX hW t b s r ht h1 n h 0 i j (by show _ = n.val * 512 + (h.val * 128 + (0 * 64 + i.val)); omega))
      (mat_ret m c V0 hX hW t b s r ht h1 n h 1 i _ (by show j.val + 64 = n.val * 512 + (h.val * 128 + (1 * 64 + i.val)); omega))
      (cosB_first m c V0 t b s r ht i) (sinB_first m c V0 t b s r ht i)).trans ?_
    refine (neg_term _ _ _ _).trans ((out_ret_first V0 n b s h i).symm.trans ?_)
    exact congrArg (fun q => r163 V0 (ix3 b s q)) (Fin.ext (by first | omega | (dsimp only <;> omega)))
  · refine (rotB _ _ _ r j (⟨j.val - 64, by omega⟩ : Fin 1024) (⟨64 + i.val, by omega⟩ : Fin 128)
      (by first | omega | (dsimp only <;> omega)) (by first | omega | (dsimp only <;> omega))
      (mat_ret m c V0 hX hW t b s r ht h1 n h 1 i j (by show _ = n.val * 512 + (h.val * 128 + (1 * 64 + i.val)); omega))
      (mat_ret m c V0 hX hW t b s r ht h1 n h 0 i _ (by show j.val - 64 = n.val * 512 + (h.val * 128 + (0 * 64 + i.val)); omega))
      (cosB_second m c V0 t b s r ht i) (sinB_second m c V0 t b s r ht i)).trans ?_
    refine (out_ret_second V0 n b s h i).symm.trans ?_
    exact congrArg (fun q => r163 V0 (ix3 b s q)) (Fin.ext (by first | omega | (dsimp only <;> omega)))

/-- An entry stored as the product alone. -/
theorem entryC (h2 : 2 ≤ t.val % 6) (j : Fin 1024) (o : Fin 6144) (ho : o.val = t.val % 6 * 1024 + j.val) :
    (k0_pay1 (iblk m c 0 t) (iblk m c 1 t) : FVec Ideal S1024x1024 .f32) (ix2 r j) = r163 V0 (ix3 b s o) := by
  obtain ⟨q, hq⟩ : ∃ q : Fin 4, q.val = t.val % 6 - 2 := ⟨⟨t.val % 6 - 2, by omega⟩, rfl⟩
  have e : (⟨2048 + (q.val * 1024 + j.val), by omega⟩ : Fin 6144) = o := Fin.ext (by first | omega | (dsimp only <;> omega))
  rw [← e]
  exact (mat m c V0 hX hW t b s r ht j _ (by first | omega | (dsimp only <;> omega)) _ (fun k => col_rest _ k q j)).trans (out_rest V0 b s q j).symm

/-- What step `t` stores. -/
theorem entry (j : Fin 1024) (o : Fin 6144) (ho : o.val = t.val % 6 * 1024 + j.val) :
    (outsAt0 m c t.val t.isLt : FVec Ideal S1024x1024 .bf16) (ix2 r j) = r163 V0 (ix3 b s o) := by
  by_cases h0 : t.val % 6 = 0
  · rw [outsAt0_A m c t h0 (by omega) (by omega)]
    exact (ProjBodyA.block _ _ _ _ _ _ _ _ _ _ _ _ _ _ _ _ _ _ _ _ _ _ _ _ _ r j).trans ((entryA m c V0 hX hW t b s r ht h0 j).trans
      (congrArg (fun q => r163 V0 (ix3 b s q)) (Fin.ext (by first | omega | (dsimp only <;> omega)))))
  · by_cases h1 : t.val % 6 = 1
    · rw [outsAt0_B m c t h0 h1 (by omega)]
      exact (ProjBodyB.block _ _ _ _ _ _ _ _ _ _ _ _ _ _ _ _ _ _ _ _ _ _ _ _ _ r j).trans ((entryB m c V0 hX hW t b s r ht h1 j).trans
        (congrArg (fun q => r163 V0 (ix3 b s q)) (Fin.ext (by first | omega | (dsimp only <;> omega)))))
    · rw [outsAt0_C m c t h0 h1 (by omega)]
      exact (ProjBodyC.block _ _ _ _ _ _ _ _ _ _ _ _ _ _ _ _ _ _ _ _ _ _ _ _ _ r j).trans
        (entryC m c V0 hX hW t b s r ht (by omega) j o ho)

end

/-- What window 6 holds at the end. -/
theorem value6 (hX : Cert.ProjReferenceIdeal.ProjRef.X V0 = ProjIn.X m c) (hW : Cert.ProjReferenceIdeal.ProjRef.W V0 = ProjIn.W m c)
    (G : FVec Ideal S16384x6144 .bf16)
    (hG : ∀ (b : Fin 2) (s : Fin 8192) (o : Fin 6144), G (ix2 (⟨b.val * 8192 + s.val, by omega⟩ : Fin 16384) o) = r163 V0 (ix3 b s o)) :
    (dats m 0 c).arrAt 6 cfg0.N = G := by
  refine (dats m 0 c).arrAt_eq_of_covers 6 G (by decide +kernel) fun t hf y => ?_
  blk_simp
  rw [after0_6]
  have hN : t.val < 96 := t.isLt
  change S1024x1024.Idx at y
  idx_vars y
  have hb : t.val / 48 < 2 := by omega
  have hs : t.val / 6 % 8 * 1024 + y0.val < 8192 := by omega
  have ho : t.val % 6 * 1024 + y1.val < 6144 := by omega
  have e : (((View.whole main_v65).slice (win0_6.rect t)).emb (ix2 y0 y1) : S16384x6144.Idx)
      = ix2 (⟨(⟨t.val / 48, hb⟩ : Fin 2).val * 8192 + (⟨t.val / 6 % 8 * 1024 + y0.val, hs⟩ : Fin 8192).val,
          by show t.val / 48 * 8192 + (t.val / 6 % 8 * 1024 + y0.val) < 16384; omega⟩ : Fin 16384)
        (⟨t.val % 6 * 1024 + y1.val, ho⟩ : Fin 6144) := by
    blk_ext [idx t]
  refine (entry m c V0 hX hW t ⟨t.val / 48, hb⟩ ⟨t.val / 6 % 8 * 1024 + y0.val, hs⟩ y0
    (by show t.val / 6 * 1024 + y0.val = t.val / 48 * 8192 + (t.val / 6 % 8 * 1024 + y0.val); omega) y1
    (⟨t.val % 6 * 1024 + y1.val, ho⟩ : Fin 6144) rfl).trans ?_
  exact ((congrArg G e).trans (hG _ _ _)).symm

/-- The reference's result by row and column. -/
theorem ref_at (hc : Cert.ProjReferenceIdeal.S2x8192x6144.ShapeCasts S16384x6144) (b : Fin 2) (s : Fin 8192) (o : Fin 6144) :
    (truncf .bf16 (shapeCast S16384x6144 (r163 V0) hc) bitsLt_bf16_f32 : FVec Ideal S16384x6144 .bf16)
      (ix2 (⟨b.val * 8192 + s.val, by omega⟩ : Fin 16384) o) = r163 V0 (ix3 b s o) :=
  cast_at (r163 V0) hc b s o

end Cert.ProjIdeal.ProjEq
-- ==== Proof.ValuesRef.lean ====
module

public import proofs.«01_k».proof.Proof.Gen.ValuesReferenceIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The block attention's stored values, by index: the projected values of a block, transposed, above a row of ones and rows of zeros. -/

namespace Cert.ValuesReferenceIdeal.ValuesRef

open Cert.ValuesReferenceIdeal Cert.ValuesReferenceIdeal.Gen Cert.ValuesReferenceIdeal.Value Idealize.ShloMosaic.StableHlo

/-- The projected values by block, head, channel and place in the block. -/
def top (x : FVec Ideal S2x8192x1024 .f32) (w : FVec Ideal S1024x6656 .f32) : FVec Ideal S64x8x64x256 .f32 :=
  transpose S64x8x64x256 [0, 2, 3, 1] (shapeCast S64x256x8x64 (extractStridedSlice S2x8192x512 ![0, 0, 1024]
    (Host.dotGeneral dot_S2x8192x1024_S1024x6656_S2x8192x6656_2_0_01_1_n_n none x w) slices_S2x8192x6656_S2x8192x512_0_0_1024)
    shapeCasts_S2x8192x512_S64x256x8x64) transposes_S64x256x8x64_S64x8x64x256_0_2_3_1

def one : FVec Ideal S64x8x1x256 .f32 := broadcastInDim S64x8x1x256 ![] bcast_S_S64x8x1x256 (constant S_ .f32 0x3F800000#32)
def zeros : FVec Ideal S64x8x15x256 .f32 := broadcastInDim S64x8x15x256 ![] bcast_S_S64x8x15x256 (constant S_ .f32 0x00000000#32)

/-- The three parts one under the other. -/
def stack (a : FVec Ideal S64x8x64x256 .f32) (b : FVec Ideal S64x8x1x256 .f32) (c : FVec Ideal S64x8x15x256 .f32) : FVec Ideal S64x8x80x256 .bf16 :=
  truncf .bf16 (concatenate S64x8x80x256 2 [⟨S64x8x64x256, a⟩, ⟨S64x8x1x256, b⟩, ⟨S64x8x15x256, c⟩]
    concatenates_S64x8x64x256_S64x8x1x256_S64x8x15x256_S64x8x80x256_d2) bitsLt_bf16_f32

/-- The reference's result. -/
def result (x : FVec Ideal S2x8192x1024 .f32) (w : FVec Ideal S1024x6656 .f32) : FVec Ideal S64x8x80x256 .bf16 := stack (top x w) one zeros

/-- A block's place among the 64. -/
abbrev blk (b : Fin 2) (n : Fin 32) : Fin 64 := ⟨b.val * 32 + n.val, by omega⟩

/-- An entry of the result. -/
def vt (x : FVec Ideal S2x8192x1024 .f32) (w : FVec Ideal S1024x6656 .f32) (b : Fin 2) (n : Fin 32) (h : Fin 8) (e : Fin 80) (p : Fin 256) : EReal :=
  if he : e.val < 64 then ∑ k : Fin 1024, x (ix3 b (⟨n.val * 256 + p.val, by omega⟩ : Fin 8192) k) * w (ix2 k (⟨1024 + (h.val * 64 + e.val), by omega⟩ : Fin 6656))
  else if e.val = 64 then 1 else 0

theorem product_at (x : FVec Ideal S2x8192x1024 .f32) (w : FVec Ideal S1024x6656 .f32) (b : Fin 2) (s : Fin 8192) (o : Fin 6656) :
    (Host.dotGeneral dot_S2x8192x1024_S1024x6656_S2x8192x6656_2_0_01_1_n_n none x w : FVec Ideal S2x8192x6656 .f32) (ix3 b s o)
      = ∑ k : Fin 1024, x (ix3 b s k) * w (ix2 k o) := by
  pointwise []

/-- The block, head and place of a projected value. -/
theorem move_at (z : FVec Ideal S2x8192x6656 .f32) (b : Fin 2) (n : Fin 32) (h : Fin 8) (e : Fin 64) (p : Fin 256) :
    (transpose S64x8x64x256 [0, 2, 3, 1] (shapeCast S64x256x8x64 (extractStridedSlice S2x8192x512 ![0, 0, 1024] z
      slices_S2x8192x6656_S2x8192x512_0_0_1024) shapeCasts_S2x8192x512_S64x256x8x64) transposes_S64x256x8x64_S64x8x64x256_0_2_3_1
      : FVec Ideal S64x8x64x256 .f32) (ix4 (blk b n) h e p)
      = z (ix3 b (⟨n.val * 256 + p.val, by omega⟩ : Fin 8192) (⟨1024 + (h.val * 64 + e.val), by omega⟩ : Fin 6656)) := by
  pointwise []
  exact congrArg (fun q => z (ix3 b q _)) (Fin.ext (by dsimp only; omega))

theorem stack_top (a : FVec Ideal S64x8x64x256 .f32) (b : FVec Ideal S64x8x1x256 .f32) (c : FVec Ideal S64x8x15x256 .f32) (g : Fin 64) (h : Fin 8) (e : Fin 64) (p : Fin 256) :
    stack a b c (ix4 g h (⟨e.val, by omega⟩ : Fin 80) p) = a (ix4 g h e p) := by
  pointwise [stack]

theorem stack_one (a : FVec Ideal S64x8x64x256 .f32) (b : FVec Ideal S64x8x1x256 .f32) (c : FVec Ideal S64x8x15x256 .f32) (g : Fin 64) (h : Fin 8) (p : Fin 256) :
    stack a b c (ix4 g h (⟨64, by omega⟩ : Fin 80) p) = b (ix4 g h (0 : Fin 1) p) := by
  pointwise [stack]

theorem stack_zero (a : FVec Ideal S64x8x64x256 .f32) (b : FVec Ideal S64x8x1x256 .f32) (c : FVec Ideal S64x8x15x256 .f32) (g : Fin 64) (h : Fin 8) (e : Fin 15) (p : Fin 256) :
    stack a b c (ix4 g h (⟨65 + e.val, by omega⟩ : Fin 80) p) = c (ix4 g h e p) := by
  pointwise [stack]
  rw [dif_neg (by omega)]
  rw [dif_neg (by omega)]
  exact congrArg (fun q => c (ix4 g h q p)) (Fin.ext (by dsimp only; omega))

theorem one_at (g : Fin 64) (h : Fin 8) (e : Fin 1) (p : Fin 256) : one (ix4 g h e p) = 1 := by
  pointwise [one]

theorem zeros_at (g : Fin 64) (h : Fin 8) (e : Fin 15) (p : Fin 256) : zeros (ix4 g h e p) = 0 := by
  pointwise [zeros]

/-- The reference's result by index. -/
theorem result_at (x : FVec Ideal S2x8192x1024 .f32) (w : FVec Ideal S1024x6656 .f32) (b : Fin 2) (n : Fin 32) (h : Fin 8) (e : Fin 80) (p : Fin 256) :
    result x w (ix4 (blk b n) h e p) = vt x w b n h e p := by
  unfold vt
  by_cases h1 : e.val < 64
  · rw [dif_pos h1]
    exact (stack_top _ _ _ (blk b n) h (⟨e.val, h1⟩ : Fin 64) p).trans ((move_at _ b n h _ p).trans (product_at x w b _ _))
  · rw [dif_neg h1]
    by_cases h2 : e.val = 64
    · rw [if_pos h2]
      exact (congrArg (fun q => result x w (ix4 (blk b n) h q p)) (Fin.ext h2)).trans
        ((stack_one _ _ _ (blk b n) h p).trans (one_at _ _ _ _))
    · rw [if_neg h2]
      refine (congrArg (fun q => result x w (ix4 (blk b n) h q p)) (Fin.ext ?_)).trans
        ((stack_zero _ _ _ (blk b n) h (⟨e.val - 65, by omega⟩ : Fin 15) p).trans (zeros_at _ _ _ _))
      dsimp only
      omega

end Cert.ValuesReferenceIdeal.ValuesRef
-- ==== Proof.ValuesEq.lean ====
module

public import proofs.«01_k».proof.Proof.Gen.ValuesIdeal.Value
public import proofs.«01_k».proof.Proof.ValuesRef
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The value call against its reference: every entry the kernel stores is the reference entry at the same index. -/

namespace Cert.ValuesIdeal.ValuesEq

open Cert.ValuesIdeal Cert.ValuesIdeal.Gen

variable (m : (ℓ : Loc nD τ sig) → Buf (Elt Ideal) ℓ)

/-- The block at an index, by its last two coordinates and the tile they lie in. -/
def blockVal (P : FVec Ideal S512x1024 .f32) (O : FVec Ideal S16x256 .bf16) : FVec Ideal S4x8x80x256 .bf16 := fun y =>
  if h : (y 2).val < 64 then P (ix2 (⟨(y 1).val * 64 + (y 2).val, by have := (y 1).isLt; change (y 1).val < 8 at this; omega⟩ : Fin 512) (⟨(y 0).val * 256 + (y 3).val, by have := (y 0).isLt; have h3 := (y 3).isLt; change (y 0).val < 4 at this; change (y 3).val < 256 at h3; omega⟩ : Fin 1024))
  else O (ix2 (⟨(y 2).val - 64, by have := (y 2).isLt; change (y 2).val < 80 at this; omega⟩ : Fin 16) (⟨(y 3).val, (y 3).isLt⟩ : Fin 256))

/-- A stored tile of the product. -/
theorem val_piece (P : FVec Ideal S512x1024 .f32) (O : FVec Ideal S16x256 .bf16) (a b : Nat) (hs : S512x1024.Slices ![a, b] S64x256)
    (hc : S64x256.ShapeCasts S1x1x64x256) (x : S1x1x64x256.Idx) (n : Fin 4) (h : Fin 8) (e : Fin 80) (p : Fin 256)
    (ha : a = h.val * 64) (hb : b = n.val * 256) (he : e.val = (x 2).val) (hp : p.val = (x 3).val) :
    (shapeCast S1x1x64x256 (truncf .bf16 (extractStridedSlice S64x256 ![a, b] P hs) bitsLt_bf16_f32 : FVec Ideal S64x256 .bf16) hc : FVec Ideal S1x1x64x256 .bf16) x
      = blockVal P O (ix4 n h e p) := by
  subst ha
  subst hb
  idx_vars x
  obtain rfl : p = x3 := Fin.ext hp
  obtain ⟨e, he'⟩ := e
  obtain rfl : e = x2.val := he
  pointwise [blockVal]

/-- A stored tile of the rows below the product. -/
theorem one_piece (P : FVec Ideal S512x1024 .f32) (O : FVec Ideal S16x256 .bf16)
    (hc : S16x256.ShapeCasts S1x1x16x256) (x : S1x1x16x256.Idx) (n : Fin 4) (h : Fin 8) (e : Fin 80) (p : Fin 256)
    (he : e.val = 64 + (x 2).val) (hp : p.val = (x 3).val) :
    (shapeCast S1x1x16x256 O hc : FVec Ideal S1x1x16x256 .bf16) x = blockVal P O (ix4 n h e p) := by
  idx_vars x
  obtain rfl : p = x3 := Fin.ext hp
  obtain ⟨e, he'⟩ := e
  obtain rfl : e = 64 + x2.val := he
  pointwise [blockVal]

theorem product (X : FVec Ideal S1024x1024 .bf16) (W : FVec Ideal S512x1024 .bf16) (i : Fin 512) (j : Fin 1024) :
    (k0_pay2 W X : FVec Ideal S512x1024 .f32) (ix2 i j) = ∑ k : Fin 1024, W (ix2 i k) * X (ix2 j k) := by
  pointwise [k0_pay2]

theorem first_row : ∀ i : Fin 16, IntOp.cmpi CmpIPredicate.eq (BitVec.ofNat 32 i.val) 0#32 = if i.val = 0 then 1#1 else 0#1 := by
  decide +kernel

theorem ones (i : Fin 16) (j : Fin 256) : (k0_pay3 (F := Ideal) : FVec Ideal S16x256 .bf16) (ix2 i j)
    = (if i.val = 0 then 1 else 0 : EReal) := by
  pointwise [k0_pay3]
  rw [first_row i]
  split <;> rfl

set_option maxHeartbeats 8000000 in
theorem block (c : Dev nD) (i : grid0.Coords) (arg1 : Memref sig .tc .vmem S1024x1024 .bf16) (harg1 : arg1.IsWhole) (arg2 : Memref sig .tc .vmem S512x1024 .bf16) (harg2 : arg2.IsWhole) (arg3 : Memref sig .tc .vmem S4x8x80x256 .bf16) (harg3 : arg3.IsWhole)
    (x0 : Vec Ideal S1024x1024 .bf16) (x1 : Vec Ideal S512x1024 .bf16) (n : Fin 4) (h : Fin 8) (e : Fin 80) (p : Fin 256) :
    (out0_A_2 c i arg1 harg1 arg2 harg2 arg3 harg3 x0 x1 : FVec Ideal S4x8x80x256 .bf16) (ix4 n h e p) = blockVal (k0_pay2 x1 x0) k0_pay3 (ix4 n h e p) := by
  frame_out
  canon_tiles x g using (View.cover_of_tiledBy (s := S4x8x80x256) _ ![1, 1, 16, 256] (by sl_kernel_rfl) _)
  all_goals clear harg1 harg2 harg3 arg1 arg2 arg3
  all_goals
    have hx0 : (x 0).val = 0 := by omega
    have hx1 : (x 1).val = 0 := by omega
    rw [hx0] at g0
    rw [hx1] at g1
    change n.val = _ at g0
    change h.val = _ at g1
    change e.val = _ at g2
    change p.val = _ at g3
    first
      | exact one_piece (k0_pay2 x1 x0) k0_pay3 shapeCasts_S16x256_S1x1x16x256 x n h e p g2 g3
      | (dsimp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
         first
           | exact one_piece (k0_pay2 x1 x0) k0_pay3 shapeCasts_S16x256_S1x1x16x256 x n h e p g2 g3
           | exact val_piece (k0_pay2 x1 x0) k0_pay3 _ _ _ shapeCasts_S64x256_S1x1x64x256 x n h e p (by omega) (by omega) g2 g3)

/-- The two operands, as arrays. -/
abbrev X (c : Dev nD) : FVec Ideal S2x8192x1024 .f32 := m ((c.tc : Thread nD τ).loc main_arg0)
abbrev W (c : Dev nD) : FVec Ideal S1024x6656 .f32 := m ((c.tc : Thread nD τ).loc main_arg1)

theorem rows (c : Dev nD) : (V m c main_v1 : FVec Ideal S16384x1024 .bf16)
    = truncf .bf16 (shapeCast S16384x1024 (X m c) shapeCasts_S2x8192x1024_S16384x1024) bitsLt_bf16_f32 := by
  sl_kernel_rfl

theorem weight (c : Dev nD) : (V m c main_v4 : FVec Ideal S512x1024 .bf16)
    = truncf .bf16 (transpose S512x1024 [1, 0] (extractStridedSlice S1024x512 ![0, 1024] (W m c) slices_S1024x6656_S1024x512_0_1024)
        transposes_S1024x512_S512x1024_1_0) bitsLt_bf16_f32 := by
  sl_kernel_rfl

/-- The block every window holds at step `t`. -/
theorem idx : ∀ t : Fin grid0.N, win0_0.index t = ![t.val, 0] ∧ win0_1.index t = ![0, 0] ∧ win0_2.index t = ![t.val, 0, 0, 0] := by
  decide +kernel

theorem x_blk (c : Dev nD) (t : Fin grid0.N) (b : Fin 2) (s : Fin 8192) (r : Fin 1024) (ht : t.val * 1024 + r.val = b.val * 8192 + s.val) (k : Fin 1024) :
    (iblk m c 0 t : FVec Ideal S1024x1024 .bf16) (ix2 r k) = X m c (ix3 b s k) := by
  have q : (iblk m c 0 t : FVec Ideal S1024x1024 .bf16) (ix2 r k)
      = (V m c main_v1 : FVec Ideal S16384x1024 .bf16) (ix2 (⟨b.val * 8192 + s.val, by omega⟩ : Fin 16384) k) := by
    blk_ext [iblk, idx t]
  rw [q, rows]
  pointwise []

theorem w_blk (c : Dev nD) (t : Fin grid0.N) (i : Fin 512) (k : Fin 1024) :
    (iblk m c 1 t : FVec Ideal S512x1024 .bf16) (ix2 i k) = W m c (ix2 k (⟨1024 + i.val, by omega⟩ : Fin 6656)) := by
  have q : (iblk m c 1 t : FVec Ideal S512x1024 .bf16) (ix2 i k) = (V m c main_v4 : FVec Ideal S512x1024 .bf16) (ix2 i k) := by
    blk_ext [iblk, idx t]
  rw [q, weight]
  pointwise []

open Cert.ValuesReferenceIdeal.ValuesRef (vt blk)

/-- What step `t` stores. -/
theorem entry (c : Dev nD) (t : Fin grid0.N) (j : Fin 4) (b : Fin 2) (n : Fin 32) (hn : t.val * 4 + j.val = b.val * 32 + n.val)
    (h : Fin 8) (e : Fin 80) (p : Fin 256) :
    (outsAt0 m c t : FVec Ideal S4x8x80x256 .bf16) (ix4 j h e p) = vt (X m c) (W m c) b n h e p := by
  unfold outsAt0
  refine (block c _ _ _ _ _ _ _ (iblk m c 0 t) (iblk m c 1 t) j h e p).trans ?_
  unfold vt blockVal
  by_cases he : e.val < 64
  · rw [dif_pos he]
    refine (dif_pos he).trans ((product _ _ _ _).trans (Finset.sum_congr rfl fun k _ => ?_))
    exact (mul_comm _ _).trans (congrArg₂ (· * ·)
      (x_blk m c t b (⟨n.val * 256 + p.val, by omega⟩ : Fin 8192) _ (by
        show t.val * 1024 + (j.val * 256 + p.val) = b.val * 8192 + (n.val * 256 + p.val); omega) k)
      (w_blk m c t (⟨h.val * 64 + e.val, by omega⟩ : Fin 512) k))
  · rw [dif_neg he]
    refine (dif_neg he).trans ((ones _ _).trans ?_)
    show (if e.val - 64 = 0 then (1 : EReal) else 0) = _
    by_cases h2 : e.val = 64
    · rw [if_pos h2, if_pos (by omega)]
    · rw [if_neg h2, if_neg (by omega)]

/-- What window 2 holds at the end. -/
theorem value2 (c : Dev nD) (G : FVec Ideal S64x8x80x256 .bf16)
    (hG : ∀ (b : Fin 2) (n : Fin 32) (h : Fin 8) (e : Fin 80) (p : Fin 256), G (ix4 (blk b n) h e p) = vt (X m c) (W m c) b n h e p) :
    (dats m 0 c).arrAt 2 cfg0.N = G := by
  refine (dats m 0 c).arrAt_eq_of_covers 2 G (by decide +kernel) fun t hf y => ?_
  blk_simp
  rw [after0_2]
  have hN : t.val < 16 := t.isLt
  change S4x8x80x256.Idx at y
  idx_vars y
  have hb : (t.val * 4 + y0.val) / 32 < 2 := by omega
  have hn : (t.val * 4 + y0.val) % 32 < 32 := by omega
  have e : (((View.whole main_v5).slice (win0_2.rect t)).emb (ix4 y0 y1 y2 y3) : S64x8x80x256.Idx)
      = ix4 (blk ⟨(t.val * 4 + y0.val) / 32, hb⟩ ⟨(t.val * 4 + y0.val) % 32, hn⟩) y1 y2 y3 := by
    blk_ext [idx t, blk]
  refine (entry m c t y0 ⟨(t.val * 4 + y0.val) / 32, hb⟩ ⟨(t.val * 4 + y0.val) % 32, hn⟩
    (by show t.val * 4 + y0.val = (t.val * 4 + y0.val) / 32 * 32 + (t.val * 4 + y0.val) % 32; omega) y1 y2 y3).trans ?_
  exact ((congrArg G e).trans (hG _ _ _ _ _)).symm

end Cert.ValuesIdeal.ValuesEq

end
-- ==== Proof.lean ====
module

public import proofs.«01_k».proof.Proof.Gen.KernelIdeal.Value
public import proofs.«01_k».proof.Proof.Gen.ReferenceIdeal.Run
public import proofs.«01_k».proof.Proof.RetRefRun
public import proofs.«01_k».proof.Proof.RetEq
public import proofs.«01_k».proof.Proof.Gen.MergeIdeal.Value
public import proofs.«01_k».proof.Proof.Gen.MergeReferenceIdeal.Run
public import proofs.«01_k».proof.Proof.Gen.Merge.Frame
public import proofs.«01_k».proof.Proof.Gen.ProjIdeal.Value
public import proofs.«01_k».proof.Proof.Gen.ProjReferenceIdeal.Run
public import proofs.«01_k».proof.Proof.Gen.Proj.Frame
public import proofs.«01_k».proof.Proof.Gen.ValuesIdeal.Value
public import proofs.«01_k».proof.Proof.Gen.ValuesReferenceIdeal.Run
public import proofs.«01_k».proof.Proof.Gen.Values.Frame
public import proofs.«01_k».proof.Proof.MergeEq
public import proofs.«01_k».proof.Proof.MergeRef
public import proofs.«01_k».proof.Proof.ProjEq
public import proofs.«01_k».proof.Proof.ValuesEq
public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩)
    (Cert.ReferenceIdeal.RetRefRun.run m' ρ')
  rw [(h c).1]
  simp only [hagree c]
  exact (Cert.KernelIdeal.RetEq.value m c).symm

theorem quiescent_ProjReferenceIdeal : quiescent_ProjReferenceIdeal := fun m ρ _ =>
  (θ_run Cert.ProjReferenceIdeal.defs _ _).mono (fun r h => ⟨fun c => (h c).2, sem_eq_zero_of_no_sems (by decide) r.2⟩)
    (Cert.ProjReferenceIdeal.Value.run (F := Ideal) m ρ)

theorem quiescent_MergeReferenceIdeal : quiescent_MergeReferenceIdeal := fun m ρ _ =>
  (θ_run Cert.MergeReferenceIdeal.defs _ _).mono (fun r h => ⟨fun c => (h c).2.2, sem_eq_zero_of_no_sems (by decide) r.2⟩)
    (Cert.MergeReferenceIdeal.Value.run (F := Ideal) m ρ)

theorem algebraic_ProjIdeal_ProjReferenceIdeal : algebraic_ProjIdeal_ProjReferenceIdeal := by
  intro m ρ m' ρ' _ hagree
  refine ⟨_, Cert.ProjIdeal.Value.run_blocks (F := Ideal) m ρ, ?_⟩
  refine (θ_run Cert.ProjReferenceIdeal.defs _ _).mono (fun _ h c => ⟨?_, (h c).2⟩)
    (Cert.ProjReferenceIdeal.Value.run (F := Ideal) m' ρ')
  refine (h c).1.trans (Cert.ProjIdeal.ProjEq.value6 m c (StableHlo.launchContents m' c) (hagree c).1 (hagree c).2 _ ?_).symm
  exact Cert.ProjIdeal.ProjEq.ref_at (StableHlo.launchContents m' c) _

theorem algebraic_MergeIdeal_MergeReferenceIdeal : algebraic_MergeIdeal_MergeReferenceIdeal := by
  intro m ρ m' ρ' _ hagree
  refine ⟨_, _, Cert.MergeIdeal.Value.run_blocks (F := Ideal) m ρ, ?_⟩
  refine (θ_run Cert.MergeReferenceIdeal.defs _ _).mono (fun _ h c => ⟨?_, ?_, (h c).2.2⟩)
    (Cert.MergeReferenceIdeal.Value.run (F := Ideal) m' ρ')
  · refine (h c).1.trans (Cert.MergeIdeal.MergeEq.value10 m c (Cert.MergeReferenceIdeal.Value.res_main_v55 m' c) (fun b s d => ?_)).symm
    refine (Cert.MergeReferenceIdeal.MergeRef.res_at m' c b s d).trans ?_
    simp only [hagree c]
    rfl
  · refine (h c).2.1.trans (Cert.MergeIdeal.MergeEq.value11 m c (Cert.MergeReferenceIdeal.Value.res_main_v56 m' c) (fun b s d => ?_)).symm
    refine (Cert.MergeReferenceIdeal.MergeRef.res_at' m' c b s d).trans ?_
    simp only [hagree c]
    rfl

theorem quiescent_ValuesReferenceIdeal : quiescent_ValuesReferenceIdeal := fun m ρ _ =>
  (θ_run Cert.ValuesReferenceIdeal.defs _ _).mono (fun r h => ⟨fun c => (h c).2, sem_eq_zero_of_no_sems (by decide) r.2⟩)
    (Cert.ValuesReferenceIdeal.Value.run (F := Ideal) m ρ)

theorem algebraic_ValuesIdeal_ValuesReferenceIdeal : algebraic_ValuesIdeal_ValuesReferenceIdeal := by
  intro m ρ m' ρ' _ hagree
  refine ⟨_, Cert.ValuesIdeal.Value.run_blocks (F := Ideal) m ρ, ?_⟩
  refine (θ_run Cert.ValuesReferenceIdeal.defs _ _).mono (fun _ h c => ⟨?_, (h c).2⟩)
    (Cert.ValuesReferenceIdeal.Value.run (F := Ideal) m' ρ')
  refine (h c).1.trans (Cert.ValuesIdeal.ValuesEq.value2 m c _ (fun b n h e p => ?_)).symm
  exact (Cert.ValuesReferenceIdeal.ValuesRef.result_at _ _ b n h e p).trans
    (congrArg₂ (fun x w => Cert.ValuesReferenceIdeal.ValuesRef.vt x w b n h e p) (hagree c).1 (hagree c).2)

theorem claim : Cert.Claim := ⟨Cert.Kernel.Gen.facts, Cert.KernelIdeal.Gen.facts, Cert.ReferenceIdeal.Gen.facts,
  Cert.Proj.Gen.facts, Cert.ProjIdeal.Gen.facts, Cert.ProjReferenceIdeal.Gen.facts,
  Cert.Merge.Gen.facts, Cert.MergeIdeal.Gen.facts, Cert.MergeReferenceIdeal.Gen.facts,
  Cert.Values.Gen.facts, Cert.ValuesIdeal.Gen.facts, Cert.ValuesReferenceIdeal.Gen.facts,
  fun m ρ _ => Cert.Kernel.Gen.frame m ρ, fun m ρ _ => Cert.KernelIdeal.Gen.frame m ρ, quiescent_ReferenceIdeal,
  fun m ρ _ => Cert.Proj.Gen.frame m ρ, fun m ρ _ => Cert.ProjIdeal.Gen.frame m ρ, quiescent_ProjReferenceIdeal,
  fun m ρ _ => Cert.Merge.Gen.frame m ρ, fun m ρ _ => Cert.MergeIdeal.Gen.frame m ρ, quiescent_MergeReferenceIdeal,
  fun m ρ _ => Cert.Values.Gen.frame m ρ, fun m ρ _ => Cert.ValuesIdeal.Gen.frame m ρ, quiescent_ValuesReferenceIdeal,
  (trivial : preserves_Kernel_KernelIdeal), algebraic_KernelIdeal_ReferenceIdeal,
  (trivial : preserves_Proj_ProjIdeal), algebraic_ProjIdeal_ProjReferenceIdeal,
  (trivial : preserves_Merge_MergeIdeal), algebraic_MergeIdeal_MergeReferenceIdeal,
  (trivial : preserves_Values_ValuesIdeal), algebraic_ValuesIdeal_ValuesReferenceIdeal⟩

end Cert.Proof

end
